-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)) (v5 : (c : Dev Cert.KernelIdeal.nD) → Buf (Elt Ideal) ((c.tc : Thread Cert.KernelIdeal.nD Cert.KernelIdeal.τ).loc Cert.KernelIdeal.main_v17_5)) (v6 : (c : Dev Cert.KernelIdeal.nD) → Buf (Elt Ideal) ((c.tc : Thread Cert.KernelIdeal.nD Cert.KernelIdeal.τ).loc Cert.KernelIdeal.main_v17_6)) (v7 : (c : Dev Cert.KernelIdeal.nD) → Buf (Elt Ideal) ((c.tc : Thread Cert.KernelIdeal.nD Cert.KernelIdeal.τ).loc Cert.KernelIdeal.main_v17_7)) (v8 : (c : Dev Cert.KernelIdeal.nD) → Buf (Elt Ideal) ((c.tc : Thread Cert.KernelIdeal.nD Cert.KernelIdeal.τ).loc Cert.KernelIdeal.main_v17_8)) (v9 : (c : Dev Cert.KernelIdeal.nD) → Buf (Elt Ideal) ((c.tc : Thread Cert.KernelIdeal.nD Cert.KernelIdeal.τ).loc Cert.KernelIdeal.main_v17_9)) (v10 : (c : Dev Cert.KernelIdeal.nD) → Buf (Elt Ideal) ((c.tc : Thread Cert.KernelIdeal.nD Cert.KernelIdeal.τ).loc Cert.KernelIdeal.main_v17_10)) (v11 : (c : Dev Cert.KernelIdeal.nD) → Buf (Elt Ideal) ((c.tc : Thread Cert.KernelIdeal.nD Cert.KernelIdeal.τ).loc Cert.KernelIdeal.main_v17_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_v17_5) = v5 c
          ∧ r.2.mem ((c.tc : Thread Cert.KernelIdeal.nD Cert.KernelIdeal.τ).loc Cert.KernelIdeal.main_v17_6) = v6 c
          ∧ r.2.mem ((c.tc : Thread Cert.KernelIdeal.nD Cert.KernelIdeal.τ).loc Cert.KernelIdeal.main_v17_7) = v7 c
          ∧ r.2.mem ((c.tc : Thread Cert.KernelIdeal.nD Cert.KernelIdeal.τ).loc Cert.KernelIdeal.main_v17_8) = v8 c
          ∧ r.2.mem ((c.tc : Thread Cert.KernelIdeal.nD Cert.KernelIdeal.τ).loc Cert.KernelIdeal.main_v17_9) = v9 c
          ∧ r.2.mem ((c.tc : Thread Cert.KernelIdeal.nD Cert.KernelIdeal.τ).loc Cert.KernelIdeal.main_v17_10) = v10 c
          ∧ r.2.mem ((c.tc : Thread Cert.KernelIdeal.nD Cert.KernelIdeal.τ).loc Cert.KernelIdeal.main_v17_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_v7_5) = v5 c
          ∧ r.2.mem ((c.tc : Thread Cert.ReferenceIdeal.nD Cert.ReferenceIdeal.τ).loc Cert.ReferenceIdeal.main_v7_6) = v6 c
          ∧ r.2.mem ((c.tc : Thread Cert.ReferenceIdeal.nD Cert.ReferenceIdeal.τ).loc Cert.ReferenceIdeal.main_v7_7) = v7 c
          ∧ r.2.mem ((c.tc : Thread Cert.ReferenceIdeal.nD Cert.ReferenceIdeal.τ).loc Cert.ReferenceIdeal.main_v7_8) = v8 c
          ∧ r.2.mem ((c.tc : Thread Cert.ReferenceIdeal.nD Cert.ReferenceIdeal.τ).loc Cert.ReferenceIdeal.main_v7_9) = v9 c
          ∧ r.2.mem ((c.tc : Thread Cert.ReferenceIdeal.nD Cert.ReferenceIdeal.τ).loc Cert.ReferenceIdeal.main_v7_10) = v10 c
          ∧ r.2.mem ((c.tc : Thread Cert.ReferenceIdeal.nD Cert.ReferenceIdeal.τ).loc Cert.ReferenceIdeal.main_v7_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2520x16x2x128 : Shape := ⟨4, ![2520, 16, 2, 128]⟩
abbrev S2500x3 : Shape := ⟨2, ![2500, 3]⟩
abbrev S16 : Shape := ⟨1, ![16]⟩
abbrev S32x64 : Shape := ⟨2, ![32, 64]⟩
abbrev S64 : Shape := ⟨1, ![64]⟩
abbrev S64x16 : Shape := ⟨2, ![64, 16]⟩
abbrev S64x64 : Shape := ⟨2, ![64, 64]⟩
abbrev S64x3 : Shape := ⟨2, ![64, 3]⟩
abbrev S3 : Shape := ⟨1, ![3]⟩
abbrev S2520x32x128 : Shape := ⟨3, ![2520, 32, 128]⟩
abbrev S_ : Shape := ⟨0, ![]⟩
abbrev S2520x3 : Shape := ⟨2, ![2520, 3]⟩
abbrev S45x56x3 : Shape := ⟨3, ![45, 56, 3]⟩
abbrev S45x3x56 : Shape := ⟨3, ![45, 3, 56]⟩
abbrev S16x2 : Shape := ⟨2, ![16, 2]⟩
abbrev S32 : Shape := ⟨1, ![32]⟩
abbrev S32x1 : Shape := ⟨2, ![32, 1]⟩
abbrev S64x32 : Shape := ⟨2, ![64, 32]⟩
abbrev S64x1 : Shape := ⟨2, ![64, 1]⟩
abbrev S16x64 : Shape := ⟨2, ![16, 64]⟩
abbrev S16x1 : Shape := ⟨2, ![16, 1]⟩
abbrev S3x64 : Shape := ⟨2, ![3, 64]⟩
abbrev S3x1 : Shape := ⟨2, ![3, 1]⟩
abbrev S2500x128 : Shape := ⟨2, ![2500, 128]⟩
abbrev S3x2500x128 : Shape := ⟨3, ![3, 2500, 128]⟩
abbrev S2500x32x128 : Shape := ⟨3, ![2500, 32, 128]⟩
abbrev S2500x64x128 : Shape := ⟨3, ![2500, 64, 128]⟩
abbrev S56x32x128 : Shape := ⟨3, ![56, 32, 128]⟩
abbrev S1x3x56 : Shape := ⟨3, ![1, 3, 56]⟩
abbrev S56x128 : Shape := ⟨2, ![56, 128]⟩
abbrev S3x56x128 : Shape := ⟨3, ![3, 56, 128]⟩
abbrev S56x64x128 : Shape := ⟨3, ![56, 64, 128]⟩
abbrev S16x56 : Shape := ⟨2, ![16, 56]⟩
abbrev S3x56 : Shape := ⟨2, ![3, 56]⟩
abbrev S1x56 : Shape := ⟨2, ![1, 56]⟩
abbrev S1x32x128 : Shape := ⟨3, ![1, 32, 128]⟩
abbrev S32x128 : Shape := ⟨2, ![32, 128]⟩
abbrev S128 : Shape := ⟨1, ![128]⟩
abbrev S1x128 : Shape := ⟨2, ![1, 128]⟩
abbrev S255x128 : Shape := ⟨2, ![255, 128]⟩
abbrev S64x128 : Shape := ⟨2, ![64, 128]⟩
abbrev S1x64x128 : Shape := ⟨3, ![1, 64, 128]⟩
abbrev S16x128 : Shape := ⟨2, ![16, 128]⟩
abbrev S3x128 : Shape := ⟨2, ![3, 128]⟩
abbrev S1x1x128 : Shape := ⟨3, ![1, 1, 128]⟩

abbrev nBuf : Space → Nat
  | .hbm => 44
  | .vmem => 42
  | .smem => 0
  | _ => 0

abbrev bufTy : (tb : Table) → Fin (tcTables nBuf tb) → BufTy
  | .hbm, ⟨0, _⟩ => ⟨S2520x16x2x128, .f32⟩
  | .hbm, ⟨1, _⟩ => ⟨S2500x3, .f32⟩
  | .hbm, ⟨2, _⟩ => ⟨S16, .f32⟩
  | .hbm, ⟨3, _⟩ => ⟨S32x64, .fp8e4m3⟩
  | .hbm, ⟨4, _⟩ => ⟨S64, .f32⟩
  | .hbm, ⟨5, _⟩ => ⟨S64x16, .fp8e4m3⟩
  | .hbm, ⟨6, _⟩ => ⟨S16, .f32⟩
  | .hbm, ⟨7, _⟩ => ⟨S32x64, .fp8e4m3⟩
  | .hbm, ⟨8, _⟩ => ⟨S64, .f32⟩
  | .hbm, ⟨9, _⟩ => ⟨S64x64, .fp8e4m3⟩
  | .hbm, ⟨10, _⟩ => ⟨S64, .f32⟩
  | .hbm, ⟨11, _⟩ => ⟨S64x3, .fp8e4m3⟩
  | .hbm, ⟨12, _⟩ => ⟨S3, .f32⟩
  | .hbm, ⟨13, _⟩ => ⟨S2520x32x128, .f32⟩
  | .hbm, ⟨14, _⟩ => ⟨S_, .i32⟩
  | .hbm, ⟨15, _⟩ => ⟨S_, .f32⟩
  | .hbm, ⟨16, _⟩ => ⟨S2520x3, .f32⟩
  | .hbm, ⟨17, _⟩ => ⟨S45x56x3, .f32⟩
  | .hbm, ⟨18, _⟩ => ⟨S45x3x56, .f32⟩
  | .hbm, ⟨19, _⟩ => ⟨S16x2, .f32⟩
  | .hbm, ⟨20, _⟩ => ⟨S32, .f32⟩
  | .hbm, ⟨21, _⟩ => ⟨S32x1, .f32⟩
  | .hbm, ⟨22, _⟩ => ⟨S64x32, .fp8e4m3⟩
  | .hbm, ⟨23, _⟩ => ⟨S64x1, .f32⟩
  | .hbm, ⟨24, _⟩ => ⟨S16x64, .fp8e4m3⟩
  | .hbm, ⟨25, _⟩ => ⟨S16x1, .f32⟩
  | .hbm, ⟨26, _⟩ => ⟨S64x32, .fp8e4m3⟩
  | .hbm, ⟨27, _⟩ => ⟨S64x1, .f32⟩
  | .hbm, ⟨28, _⟩ => ⟨S64x64, .fp8e4m3⟩
  | .hbm, ⟨29, _⟩ => ⟨S64x1, .f32⟩
  | .hbm, ⟨30, _⟩ => ⟨S3x64, .fp8e4m3⟩
  | .hbm, ⟨31, _⟩ => ⟨S3x1, .f32⟩
  | .hbm, ⟨32, _⟩ => ⟨S2500x128, .bf16⟩
  | .hbm, ⟨33, _⟩ => ⟨S3x2500x128, .bf16⟩
  | .hbm, ⟨34, _⟩ => ⟨S2500x32x128, .fp8e4m3⟩
  | .hbm, ⟨35, _⟩ => ⟨S2500x128, .f32⟩
  | .hbm, ⟨36, _⟩ => ⟨S2500x64x128, .fp8e4m3⟩
  | .hbm, ⟨37, _⟩ => ⟨S2500x128, .f32⟩
  | .hbm, ⟨38, _⟩ => ⟨S2500x32x128, .fp8e4m3⟩
  | .hbm, ⟨39, _⟩ => ⟨S2500x128, .f32⟩
  | .hbm, ⟨40, _⟩ => ⟨S2500x64x128, .fp8e4m3⟩
  | .hbm, ⟨41, _⟩ => ⟨S2500x128, .f32⟩
  | .hbm, ⟨42, _⟩ => ⟨S2500x64x128, .fp8e4m3⟩
  | .hbm, ⟨43, _⟩ => ⟨S2500x128, .f32⟩
  | .local _ .vmem, ⟨0, _⟩ => ⟨S56x32x128, .f32⟩
  | .local _ .vmem, ⟨1, _⟩ => ⟨S56x32x128, .f32⟩
  | .local _ .vmem, ⟨2, _⟩ => ⟨S1x3x56, .f32⟩
  | .local _ .vmem, ⟨3, _⟩ => ⟨S1x3x56, .f32⟩
  | .local _ .vmem, ⟨4, _⟩ => ⟨S32x1, .f32⟩
  | .local _ .vmem, ⟨5, _⟩ => ⟨S64x32, .fp8e4m3⟩
  | .local _ .vmem, ⟨6, _⟩ => ⟨S64x1, .f32⟩
  | .local _ .vmem, ⟨7, _⟩ => ⟨S16x64, .fp8e4m3⟩
  | .local _ .vmem, ⟨8, _⟩ => ⟨S16x1, .f32⟩
  | .local _ .vmem, ⟨9, _⟩ => ⟨S64x32, .fp8e4m3⟩
  | .local _ .vmem, ⟨10, _⟩ => ⟨S64x1, .f32⟩
  | .local _ .vmem, ⟨11, _⟩ => ⟨S64x64, .fp8e4m3⟩
  | .local _ .vmem, ⟨12, _⟩ => ⟨S64x1, .f32⟩
  | .local _ .vmem, ⟨13, _⟩ => ⟨S3x64, .fp8e4m3⟩
  | .local _ .vmem, ⟨14, _⟩ => ⟨S3x1, .f32⟩
  | .local _ .vmem, ⟨15, _⟩ => ⟨S56x128, .bf16⟩
  | .local _ .vmem, ⟨16, _⟩ => ⟨S56x128, .bf16⟩
  | .local _ .vmem, ⟨17, _⟩ => ⟨S3x56x128, .bf16⟩
  | .local _ .vmem, ⟨18, _⟩ => ⟨S3x56x128, .bf16⟩
  | .local _ .vmem, ⟨19, _⟩ => ⟨S56x32x128, .fp8e4m3⟩
  | .local _ .vmem, ⟨20, _⟩ => ⟨S56x32x128, .fp8e4m3⟩
  | .local _ .vmem, ⟨21, _⟩ => ⟨S56x128, .f32⟩
  | .local _ .vmem, ⟨22, _⟩ => ⟨S56x128, .f32⟩
  | .local _ .vmem, ⟨23, _⟩ => ⟨S56x64x128, .fp8e4m3⟩
  | .local _ .vmem, ⟨24, _⟩ => ⟨S56x64x128, .fp8e4m3⟩
  | .local _ .vmem, ⟨25, _⟩ => ⟨S56x128, .f32⟩
  | .local _ .vmem, ⟨26, _⟩ => ⟨S56x128, .f32⟩
  | .local _ .vmem, ⟨27, _⟩ => ⟨S56x32x128, .fp8e4m3⟩
  | .local _ .vmem, ⟨28, _⟩ => ⟨S56x32x128, .fp8e4m3⟩
  | .local _ .vmem, ⟨29, _⟩ => ⟨S56x128, .f32⟩
  | .local _ .vmem, ⟨30, _⟩ => ⟨S56x128, .f32⟩
  | .local _ .vmem, ⟨31, _⟩ => ⟨S56x64x128, .fp8e4m3⟩
  | .local _ .vmem, ⟨32, _⟩ => ⟨S56x64x128, .fp8e4m3⟩
  | .local _ .vmem, ⟨33, _⟩ => ⟨S56x128, .f32⟩
  | .local _ .vmem, ⟨34, _⟩ => ⟨S56x128, .f32⟩
  | .local _ .vmem, ⟨35, _⟩ => ⟨S56x64x128, .fp8e4m3⟩
  | .local _ .vmem, ⟨36, _⟩ => ⟨S56x64x128, .fp8e4m3⟩
  | .local _ .vmem, ⟨37, _⟩ => ⟨S56x128, .f32⟩
  | .local _ .vmem, ⟨38, _⟩ => ⟨S56x128, .f32⟩
  | .local _ .vmem, ⟨39, _⟩ => ⟨S16x56, .f32⟩
  | .local _ .vmem, ⟨40, _⟩ => ⟨S56x128, .f32⟩
  | .local _ .vmem, ⟨41, _⟩ => ⟨S3x56x128, .f32⟩
  | _, _ => ⟨S2520x16x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_v17_7 : Ref sig .tc := ⟨.hbm, 39, rfl⟩
abbrev main_v17_8 : Ref sig .tc := ⟨.hbm, 40, rfl⟩
abbrev main_v17_9 : Ref sig .tc := ⟨.hbm, 41, rfl⟩
abbrev main_v17_10 : Ref sig .tc := ⟨.hbm, 42, rfl⟩
abbrev main_v17_11 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![45], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S56x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S56x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x56x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S56x32x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S56x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S56x64x128 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S56x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S56x32x128 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S56x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S56x64x128 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S56x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S56x64x128 .fp8e4m3 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S56x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S2520x16x2x128 : Shape := ⟨4, ![2520, 16, 2, 128]⟩
abbrev S2500x3 : Shape := ⟨2, ![2500, 3]⟩
abbrev S16 : Shape := ⟨1, ![16]⟩
abbrev S32x64 : Shape := ⟨2, ![32, 64]⟩
abbrev S64 : Shape := ⟨1, ![64]⟩
abbrev S64x16 : Shape := ⟨2, ![64, 16]⟩
abbrev S64x64 : Shape := ⟨2, ![64, 64]⟩
abbrev S64x3 : Shape := ⟨2, ![64, 3]⟩
abbrev S3 : Shape := ⟨1, ![3]⟩
abbrev S2500x16x2x128 : Shape := ⟨4, ![2500, 16, 2, 128]⟩
abbrev S2500x128x16x2 : Shape := ⟨4, ![2500, 128, 16, 2]⟩
abbrev S16x1 : Shape := ⟨2, ![16, 1]⟩
abbrev S1x1x16x1 : Shape := ⟨4, ![1, 1, 16, 1]⟩
abbrev S2500x128x32 : Shape := ⟨3, ![2500, 128, 32]⟩
abbrev S2500x128 : Shape := ⟨2, ![2500, 128]⟩
abbrev S3x2500x128 : Shape := ⟨3, ![3, 2500, 128]⟩
abbrev S2500x32x128 : Shape := ⟨3, ![2500, 32, 128]⟩
abbrev S2500x64x128 : Shape := ⟨3, ![2500, 64, 128]⟩
abbrev S255x2500x128 : Shape := ⟨3, ![255, 2500, 128]⟩
abbrev S1x2500x128 : Shape := ⟨3, ![1, 2500, 128]⟩
abbrev S2500x128x1 : Shape := ⟨3, ![2500, 128, 1]⟩
abbrev S320000x32 : Shape := ⟨2, ![320000, 32]⟩
abbrev S320000x64 : Shape := ⟨2, ![320000, 64]⟩
abbrev S2500x128x64 : Shape := ⟨3, ![2500, 128, 64]⟩
abbrev S1x1x64 : Shape := ⟨3, ![1, 1, 64]⟩
abbrev S320000x16 : Shape := ⟨2, ![320000, 16]⟩
abbrev S2500x128x16 : Shape := ⟨3, ![2500, 128, 16]⟩
abbrev S1x1x16 : Shape := ⟨3, ![1, 1, 16]⟩
abbrev S2500x1 : Shape := ⟨2, ![2500, 1]⟩
abbrev S2500x16 : Shape := ⟨2, ![2500, 16]⟩
abbrev S2500x1x16 : Shape := ⟨3, ![2500, 1, 16]⟩
abbrev S320000x3 : Shape := ⟨2, ![320000, 3]⟩
abbrev S2500x128x3 : Shape := ⟨3, ![2500, 128, 3]⟩
abbrev S1x1x3 : Shape := ⟨3, ![1, 1, 3]⟩

abbrev nBuf : Space → Nat
  | .hbm => 32
  | .vmem => 24
  | .smem => 0
  | _ => 0

abbrev bufTy : (tb : Table) → Fin (tcTables nBuf tb) → BufTy
  | .hbm, ⟨0, _⟩ => ⟨S2520x16x2x128, .f32⟩
  | .hbm, ⟨1, _⟩ => ⟨S2500x3, .f32⟩
  | .hbm, ⟨2, _⟩ => ⟨S16, .f32⟩
  | .hbm, ⟨3, _⟩ => ⟨S32x64, .fp8e4m3⟩
  | .hbm, ⟨4, _⟩ => ⟨S64, .f32⟩
  | .hbm, ⟨5, _⟩ => ⟨S64x16, .fp8e4m3⟩
  | .hbm, ⟨6, _⟩ => ⟨S16, .f32⟩
  | .hbm, ⟨7, _⟩ => ⟨S32x64, .fp8e4m3⟩
  | .hbm, ⟨8, _⟩ => ⟨S64, .f32⟩
  | .hbm, ⟨9, _⟩ => ⟨S64x64, .fp8e4m3⟩
  | .hbm, ⟨10, _⟩ => ⟨S64, .f32⟩
  | .hbm, ⟨11, _⟩ => ⟨S64x3, .fp8e4m3⟩
  | .hbm, ⟨12, _⟩ => ⟨S3, .f32⟩
  | .hbm, ⟨13, _⟩ => ⟨S2500x16x2x128, .f32⟩
  | .hbm, ⟨14, _⟩ => ⟨S2500x128x16x2, .f32⟩
  | .hbm, ⟨15, _⟩ => ⟨S16x1, .f32⟩
  | .hbm, ⟨16, _⟩ => ⟨S1x1x16x1, .f32⟩
  | .hbm, ⟨17, _⟩ => ⟨S2500x128x16x2, .f32⟩
  | .hbm, ⟨18, _⟩ => ⟨S2500x128x16x2, .f32⟩
  | .hbm, ⟨19, _⟩ => ⟨S2500x128x32, .f32⟩
  | .hbm, ⟨20, _⟩ => ⟨S2500x128, .bf16⟩
  | .hbm, ⟨21, _⟩ => ⟨S3x2500x128, .bf16⟩
  | .hbm, ⟨22, _⟩ => ⟨S2500x32x128, .fp8e4m3⟩
  | .hbm, ⟨23, _⟩ => ⟨S2500x128, .f32⟩
  | .hbm, ⟨24, _⟩ => ⟨S2500x64x128, .fp8e4m3⟩
  | .hbm, ⟨25, _⟩ => ⟨S2500x128, .f32⟩
  | .hbm, ⟨26, _⟩ => ⟨S2500x32x128, .fp8e4m3⟩
  | .hbm, ⟨27, _⟩ => ⟨S2500x128, .f32⟩
  | .hbm, ⟨28, _⟩ => ⟨S2500x64x128, .fp8e4m3⟩
  | .hbm, ⟨29, _⟩ => ⟨S2500x128, .f32⟩
  | .hbm, ⟨30, _⟩ => ⟨S2500x64x128, .fp8e4m3⟩
  | .hbm, ⟨31, _⟩ => ⟨S2500x128, .f32⟩
  | .local _ .vmem, ⟨0, _⟩ => ⟨S2500x128x32, .f32⟩
  | .local _ .vmem, ⟨1, _⟩ => ⟨S2500x3, .f32⟩
  | .local _ .vmem, ⟨2, _⟩ => ⟨S32x64, .fp8e4m3⟩
  | .local _ .vmem, ⟨3, _⟩ => ⟨S64, .f32⟩
  | .local _ .vmem, ⟨4, _⟩ => ⟨S64x16, .fp8e4m3⟩
  | .local _ .vmem, ⟨5, _⟩ => ⟨S16, .f32⟩
  | .local _ .vmem, ⟨6, _⟩ => ⟨S32x64, .fp8e4m3⟩
  | .local _ .vmem, ⟨7, _⟩ => ⟨S64, .f32⟩
  | .local _ .vmem, ⟨8, _⟩ => ⟨S64x64, .fp8e4m3⟩
  | .local _ .vmem, ⟨9, _⟩ => ⟨S64, .f32⟩
  | .local _ .vmem, ⟨10, _⟩ => ⟨S64x3, .fp8e4m3⟩
  | .local _ .vmem, ⟨11, _⟩ => ⟨S3, .f32⟩
  | .local _ .vmem, ⟨12, _⟩ => ⟨S2500x128, .bf16⟩
  | .local _ .vmem, ⟨13, _⟩ => ⟨S3x2500x128, .bf16⟩
  | .local _ .vmem, ⟨14, _⟩ => ⟨S2500x32x128, .fp8e4m3⟩
  | .local _ .vmem, ⟨15, _⟩ => ⟨S2500x128, .f32⟩
  | .local _ .vmem, ⟨16, _⟩ => ⟨S2500x64x128, .fp8e4m3⟩
  | .local _ .vmem, ⟨17, _⟩ => ⟨S2500x128, .f32⟩
  | .local _ .vmem, ⟨18, _⟩ => ⟨S2500x32x128, .fp8e4m3⟩
  | .local _ .vmem, ⟨19, _⟩ => ⟨S2500x128, .f32⟩
  | .local _ .vmem, ⟨20, _⟩ => ⟨S2500x64x128, .fp8e4m3⟩
  | .local _ .vmem, ⟨21, _⟩ => ⟨S2500x128, .f32⟩
  | .local _ .vmem, ⟨22, _⟩ => ⟨S2500x64x128, .fp8e4m3⟩
  | .local _ .vmem, ⟨23, _⟩ => ⟨S2500x128, .f32⟩
  | _, _ => ⟨S2520x16x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v7_6 : Ref sig .tc := ⟨.hbm, 26, rfl⟩
abbrev main_v7_7 : Ref sig .tc := ⟨.hbm, 27, rfl⟩
abbrev main_v7_8 : Ref sig .tc := ⟨.hbm, 28, rfl⟩
abbrev main_v7_9 : Ref sig .tc := ⟨.hbm, 29, rfl⟩
abbrev main_v7_10 : Ref sig .tc := ⟨.hbm, 30, rfl⟩
abbrev main_v7_11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2500x128x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2500x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x3 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2500x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x2500x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2500x32x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2500x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2500x64x128 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2500x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2500x32x128 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2500x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2500x64x128 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2500x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2500x64x128 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2500x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.Spec.lean ====
/- The network at one sample of one ray, over the extended reals: what both programs compute there. -/
module

public import Idealize.ShloMosaic.Lib.Pointwise

@[expose] public section

noncomputable section

namespace Cert.Proof.Spec

open Idealize.ShloMosaic

/-- The value of a 32-bit float word. -/
abbrev bits (w : BitVec 32) : EReal := Ideal.ofBits .f32 w

/-- The row's largest magnitude times 1/448. -/
def level {n : ℕ} (v : Fin n → EReal) : EReal :=
  Finset.univ.fold max (bits 4286578688#32) (fun k => FloatOps.absf (F := Ideal) (φ := .f32) (v k)) * bits 991054117#32

/-- The exponent the quantiser takes for `y`: the greatest `k` whose threshold `y` reaches, 0 if it reaches none. -/
def expo (n : ℕ) (y : EReal) : BitVec 32 :=
  Scalar.select
    (IntOp.cmpi CmpIPredicate.eq
      (Finset.fold IntOp.maxsi (2147483648#32)
        (fun x : Fin n => if bits (IntOp.shli ArithUnit.vector
            (IntOp.addi (IntOp.subi (IntOp.subi (BitVec.ofNat 32 ↑x) 125#32) 1#32) 127#32) 23#32) ≤ y
          then IntOp.subi (BitVec.ofNat 32 ↑x) 125#32 else 4294967170#32) Finset.univ)
      4294967170#32)
    (0#32)
    (Finset.fold IntOp.maxsi (2147483648#32)
      (fun x : Fin n => if bits (IntOp.shli ArithUnit.vector
          (IntOp.addi (IntOp.subi (IntOp.subi (BitVec.ofNat 32 ↑x) 125#32) 1#32) 127#32) 23#32) ≤ y
        then IntOp.subi (BitVec.ofNat 32 ↑x) 125#32 else 4294967170#32) Finset.univ)

/-- The row's scale, `2 ^ expo`. -/
def scale {n : ℕ} (v : Fin n → EReal) : EReal :=
  bits (IntOp.shli .vector (IntOp.addi (expo 255 (level v)) 127#32) 23#32)

/-- The inverse of the row's scale, `2 ^ (-expo)`. -/
def inv {n : ℕ} (v : Fin n → EReal) : EReal :=
  bits (IntOp.shli .vector (IntOp.addi (IntOp.subi 0#32 (expo 255 (level v))) 127#32) 23#32)

/-- The row's codes: each entry times the inverse scale, clipped to ±448. -/
def code {n : ℕ} (v : Fin n → EReal) : Fin n → EReal := fun k =>
  min (bits 1138753536#32) (max (bits 3286237184#32) (v k * inv v))

/-- One output of a quantised layer: the product of the codes, times the row's scale, times the column's. -/
def lin {n : ℕ} (q w : Fin n → EReal) (s t : EReal) : EReal := (∑ x, q x * w x) * s * t

/-- The sixteen spherical harmonics of degree below four. -/
def sh (k : Fin 16) (x y z : EReal) : EReal :=
  (![bits 0x3E906EBB#32,
    bits 0xBEFA2A1C#32 * y,
    bits 0x3EFA2A1C#32 * z,
    bits 0xBEFA2A1C#32 * x,
    bits 0x3F8BD8A1#32 * x * y,
    bits 0xBF8BD8A1#32 * y * z,
    bits 0x3F723881#32 * (z * z) - bits 0x3EA17B01#32,
    bits 0xBF8BD8A1#32 * x * z,
    bits 0x3F0BD8A1#32 * (x * x - y * y),
    bits 0x3F170D19#32 * y * (bits 0xC0400000#32 * (x * x) + y * y),
    bits 0x4038FFC7#32 * x * y * z,
    bits 0x3EEA01E8#32 * y * (bits 0x3F800000#32 - bits 0x40A00000#32 * (z * z)),
    bits 0x3EBF10F8#32 * z * (bits 0x40A00000#32 * (z * z) - bits 0x40400000#32),
    bits 0x3EEA01E8#32 * x * (bits 0x3F800000#32 - bits 0x40A00000#32 * (z * z)),
    bits 0x3FB8FFC7#32 * z * (x * x - y * y),
    bits 0x3F170D19#32 * x * (bits 0x00000000#32 - x * x + bits 0x40400000#32 * (y * y))] : Fin 16 → EReal) k

/-- The network's inputs at one sample: features, direction, and the five layers' weights and column scales. -/
structure Net where
  f : Fin 32 → EReal
  d : Fin 3 → EReal
  w0 : Fin 32 → Fin 64 → EReal
  t0 : Fin 64 → EReal
  w1 : Fin 64 → Fin 16 → EReal
  t1 : Fin 16 → EReal
  w2 : Fin 32 → Fin 64 → EReal
  t2 : Fin 64 → EReal
  w3 : Fin 64 → Fin 64 → EReal
  t3 : Fin 64 → EReal
  w4 : Fin 64 → Fin 3 → EReal
  t4 : Fin 3 → EReal

namespace Net
variable (N : Net)

/-- A quantised layer on the row `v`. -/
def layer {n p : ℕ} (v : Fin n → EReal) (w : Fin n → Fin p → EReal) (t : Fin p → EReal) : Fin p → EReal :=
  fun j => lin (code v) (fun x => w x j) (scale v) (t j)

/-- First hidden layer of the density network. -/
def h1 : Fin 64 → EReal := fun j => max (layer N.f N.w0 N.t0 j) 0
/-- The density network's output. -/
def h : Fin 16 → EReal := layer N.h1 N.w1 N.t1
/-- The colour network's input: the density network's output and the harmonics of the direction. -/
def cin : Fin 32 → EReal := fun k =>
  if hk : (k : ℕ) < 16 then N.h ⟨k, hk⟩ else sh ⟨(k : ℕ) - 16, by omega⟩ (N.d 0) (N.d 1) (N.d 2)
/-- First hidden layer of the colour network. -/
def g1 : Fin 64 → EReal := fun j => max (layer N.cin N.w2 N.t2 j) 0
/-- Second hidden layer of the colour network. -/
def g2 : Fin 64 → EReal := fun j => max (layer N.g1 N.w3 N.t3 j) 0
/-- The colour network's output. -/
def o : Fin 3 → EReal := layer N.g2 N.w4 N.t4

end Net

end Cert.Proof.Spec
-- ==== Proof.Expo.lean ====
/- Two ways to find the quantiser's exponent, by the greatest reached threshold's word and by its exponent, give the same scale. -/
module

public import proofs.«01_k».proof.Proof.Spec

@[expose] public section

noncomputable section

namespace Cert.Proof.Spec

open Idealize.ShloMosaic

/-- Greatest threshold's word that `y` reaches, 0 if it reaches none. -/
def wordFold (n : ℕ) (y : EReal) : BitVec 32 :=
  Finset.fold IntOp.maxsi (2147483648#32)
    (fun x : Fin n => if y < bits (IntOp.shli ArithUnit.vector (IntOp.addi (BitVec.ofNat 32 ↑x) 1#32) 23#32) then 0#32
      else IntOp.shli ArithUnit.vector (IntOp.addi (BitVec.ofNat 32 ↑x) 1#32) 23#32) Finset.univ

/-- The word the scale comes from: half's word where no threshold is reached. -/
def word (n : ℕ) (y : EReal) : BitVec 32 :=
  Scalar.select (IntOp.cmpi CmpIPredicate.eq (wordFold n y) 0#32) 1056964608#32 (wordFold n y)

theorem maxsi_eq (a b : BitVec 32) : IntOp.maxsi a b = a ∨ IntOp.maxsi a b = b := by
  unfold IntOp.maxsi; split
  · exact .inl rfl
  · exact .inr rfl

theorem toInt_maxsi (a b : BitVec 32) : (IntOp.maxsi a b).toInt = max a.toInt b.toInt := by
  unfold IntOp.maxsi
  rw [BitVec.slt_eq_decide]
  split <;> rename_i h <;> simp only [decide_eq_true_eq] at h <;> omega

/-- A maximum over a nonempty range is one of its entries and bounds them all. -/
theorem fold_maxsi {n : ℕ} (g : Fin (n + 1) → BitVec 32) :
    ∃ x, Finset.fold IntOp.maxsi (2147483648#32) g Finset.univ = g x ∧ ∀ y, (g y).toInt ≤ (g x).toInt := by
  have key : ∀ s : Finset (Fin (n + 1)),
      (Finset.fold IntOp.maxsi (2147483648#32) g s = 2147483648#32 ∨ ∃ x ∈ s, Finset.fold IntOp.maxsi (2147483648#32) g s = g x) ∧
        ∀ y ∈ s, (g y).toInt ≤ (Finset.fold IntOp.maxsi (2147483648#32) g s).toInt := by
    intro s
    induction s using Finset.induction_on with
    | empty => simp
    | insert a s ha ih =>
      rw [Finset.fold_insert ha]
      refine ⟨?_, fun y hy => ?_⟩
      · rcases maxsi_eq (g a) (Finset.fold IntOp.maxsi (2147483648#32) g s) with h | h
        · exact .inr ⟨a, Finset.mem_insert_self _ _, h⟩
        · rw [h]
          rcases ih.1 with h' | ⟨x, hx, h'⟩
          · exact .inl h'
          · exact .inr ⟨x, Finset.mem_insert_of_mem hx, h'⟩
      · rw [toInt_maxsi]
        rcases Finset.mem_insert.1 hy with rfl | hy
        · exact le_max_left _ _
        · exact (ih.2 y hy).trans (le_max_right _ _)
  obtain ⟨h1, h2⟩ := key Finset.univ
  rcases h1 with h | ⟨x, -, h⟩
  · have h0 := h2 0 (Finset.mem_univ _)
    have : g 0 = 2147483648#32 := by
      rw [h] at h0
      apply BitVec.eq_of_toInt_eq
      have := BitVec.le_toInt (g 0)
      have e : (2147483648#32 : BitVec 32).toInt = -2147483648 := by decide
      rw [e] at h0 ⊢
      norm_num at this
      omega
    refine ⟨0, h.trans this.symm, fun y => ?_⟩
    rw [this, ← h]; exact h2 y (Finset.mem_univ _)
  · exact ⟨x, h, fun y => h ▸ h2 y (Finset.mem_univ _)⟩

/-- A maximum of entries kept where `P` holds and a lower value elsewhere: the lower value if `P` never holds, else the greatest kept entry. -/
theorem fold_kept {n : ℕ} (P : Fin (n + 1) → Prop) [DecidablePred P] (w : Fin (n + 1) → BitVec 32) (c : BitVec 32)
    (hc : ∀ x, c.toInt < (w x).toInt) :
    ((∀ x, ¬ P x) ∧ Finset.fold IntOp.maxsi (2147483648#32) (fun x => if P x then w x else c) Finset.univ = c) ∨
      ∃ x, P x ∧ Finset.fold IntOp.maxsi (2147483648#32) (fun x => if P x then w x else c) Finset.univ = w x ∧
        ∀ y, P y → (w y).toInt ≤ (w x).toInt := by
  obtain ⟨x, h1, h2⟩ := fold_maxsi fun x => if P x then w x else c
  by_cases hx : P x
  · refine .inr ⟨x, hx, by rw [h1, if_pos hx], fun y hy => ?_⟩
    have := h2 y
    rwa [if_pos hx, if_pos hy] at this
  · refine .inl ⟨fun y hy => ?_, by rw [h1, if_neg hx]⟩
    have := h2 y
    rw [if_neg hx, if_pos hy] at this
    exact absurd (hc y) (not_lt.2 this)

/-- The threshold of candidate `x`, as a word. -/
abbrev thr (x : Fin 255) : BitVec 32 := IntOp.shli ArithUnit.vector (IntOp.addi (BitVec.ofNat 32 ↑x) 1#32) 23#32
/-- The exponent of candidate `x`. -/
abbrev ex (x : Fin 255) : BitVec 32 := IntOp.subi (BitVec.ofNat 32 ↑x) 125#32

theorem thr_eq : ∀ x : Fin 255, IntOp.shli ArithUnit.vector
    (IntOp.addi (IntOp.subi (ex x) 1#32) 127#32) 23#32 = thr x := by decide +kernel
theorem ex_toInt : ∀ x : Fin 255, (ex x).toInt = (x : ℤ) - 125 := by decide +kernel
theorem thr_toInt : ∀ x : Fin 255, (thr x).toInt = ((x : ℤ) + 1) * 8388608 := by decide +kernel

theorem scale_some : ∀ x : Fin 255,
    IntOp.shli .vector (IntOp.addi (Scalar.select (IntOp.cmpi .eq (ex x) 4294967170#32) 0#32 (ex x)) 127#32) 23#32 =
      IntOp.addi (Scalar.select (IntOp.cmpi .eq (thr x) 0#32) 1056964608#32 (thr x)) 8388608#32 := by decide +kernel
theorem inv_some : ∀ x : Fin 255,
    IntOp.shli .vector (IntOp.addi (IntOp.subi 0#32 (Scalar.select (IntOp.cmpi .eq (ex x) 4294967170#32) 0#32 (ex x))) 127#32) 23#32 =
      IntOp.subi 2122317824#32 (Scalar.select (IntOp.cmpi .eq (thr x) 0#32) 1056964608#32 (thr x)) := by decide +kernel

/-- Both searches stop at the same candidate, or neither finds one. -/
theorem folds (y : EReal) :
    (∃ x : Fin 255, expo 255 y = Scalar.select (IntOp.cmpi .eq (ex x) 4294967170#32) 0#32 (ex x) ∧
        word 255 y = Scalar.select (IntOp.cmpi .eq (thr x) 0#32) 1056964608#32 (thr x)) ∨
      (expo 255 y = 0#32 ∧ word 255 y = 1056964608#32) := by
  have hthr : wordFold 255 y = Finset.fold IntOp.maxsi (2147483648#32) (fun x => if bits (thr x) ≤ y then thr x else 0#32) Finset.univ := by
    unfold wordFold
    congr 1
    funext x
    by_cases h : y < bits (thr x)
    · rw [if_pos h, if_neg (not_le.2 h)]
    · rw [if_neg h, if_pos (not_lt.1 h)]
  have hex : expo 255 y = Scalar.select (IntOp.cmpi .eq (Finset.fold IntOp.maxsi (2147483648#32)
        (fun x => if bits (thr x) ≤ y then ex x else 4294967170#32) Finset.univ) 4294967170#32) 0#32
        (Finset.fold IntOp.maxsi (2147483648#32) (fun x => if bits (thr x) ≤ y then ex x else 4294967170#32) Finset.univ) := by
    unfold expo
    simp only [← thr_eq]
  have e1 : (4294967170#32 : BitVec 32).toInt = -126 := by decide
  have e2 : (0#32 : BitVec 32).toInt = 0 := by decide
  rw [hex]; unfold word; rw [hthr]
  rcases fold_kept (n := 254) (fun x => bits (thr x) ≤ y) ex 4294967170#32 (fun x => by rw [ex_toInt, e1]; omega) with ⟨hn, he⟩ | ⟨x, hx, he, hm⟩
  · rcases fold_kept (n := 254) (fun x => bits (thr x) ≤ y) thr 0#32 (fun x => by rw [thr_toInt, e2]; omega) with ⟨-, hw⟩ | ⟨x, hx, -, -⟩
    · refine .inr ?_
      rw [he, hw]
      exact ⟨by decide, by decide⟩
    · exact absurd hx (hn x)
  · rcases fold_kept (n := 254) (fun x => bits (thr x) ≤ y) thr 0#32 (fun x => by rw [thr_toInt, e2]; omega) with ⟨hn, -⟩ | ⟨z, hz, hw, hm'⟩
    · exact absurd hx (hn x)
    · have : x = z := by
        have h1 := hm z hz
        have h2 := hm' x hx
        rw [ex_toInt, ex_toInt] at h1
        rw [thr_toInt, thr_toInt] at h2
        apply Fin.ext; omega
      subst this
      exact .inl ⟨x, by rw [he], by rw [hw]⟩

theorem scale_word (y : EReal) : IntOp.shli .vector (IntOp.addi (expo 255 y) 127#32) 23#32 = IntOp.addi (word 255 y) 8388608#32 := by
  rcases folds y with ⟨x, h1, h2⟩ | ⟨h1, h2⟩
  · rw [h1, h2]; exact scale_some x
  · rw [h1, h2]; decide

theorem inv_word (y : EReal) :
    IntOp.shli .vector (IntOp.addi (IntOp.subi 0#32 (expo 255 y)) 127#32) 23#32 = IntOp.subi 2122317824#32 (word 255 y) := by
  rcases folds y with ⟨x, h1, h2⟩ | ⟨h1, h2⟩
  · rw [h1, h2]; exact inv_some x
  · rw [h1, h2]; decide

end Cert.Proof.Spec
-- ==== Proof.KerOps.lean ====
/- One ray of the kernel's body: its arrays step by step, and each at an index. -/
module

public import proofs.«01_k».proof.Proof.Gen.KernelIdeal.Skeleton
public import proofs.«01_k».proof.Proof.Expo

@[expose] public section

set_option maxRecDepth 16384

noncomputable section

namespace Cert.Proof.Ker

open Idealize.ShloMosaic Cert.KernelIdeal Cert.KernelIdeal.Gen

variable {F : FTy → Type} [FloatOps F]

/-- A value per channel and sample. -/
abbrev B (n : ℕ) : Shape := ⟨2, ![n, 128]⟩

/-- The largest magnitude over the channels, times 1/448. -/
def level {n : ℕ} (h : (B n).Reduces [0] S128) (v : FVec F (B n) .f32) : FVec F S1x128 .f32 :=
  mulf (shapeCast S1x128 (multiReduction .maximumf [0] S128 (absf v) 0xFF800000#32 h (.inl rfl) rfl) shapeCasts_S128_S1x128)
    (broadcast S1x128 (Scalar.ofBits .f32 0x3B124925#32))

/-- The thresholds' words. -/
def thr {n : ℕ} (hi : (B n).Iotas .tc 32 [0]) : IVec (B n) 32 := shli (addi (iota .tc (B n) 32 [0] hi) (broadcast _ 1#32)) (broadcast _ 23#32)

/-- The greatest threshold's word that is reached. -/
def wordFold {n : ℕ} (hi : (B n).Iotas .tc 32 [0]) (hb : S1x128.Broadcasts (B n)) (hr : (B n).Reduces [0] S128) (y : FVec F S1x128 .f32) : IVec S1x128 32 :=
  shapeCast S1x128 (multiReductionI .maxsi [0] S128 (select (cmpf .olt (broadcastTo (B n) y hb) (bitcastToFloat .f32 (thr hi) : FVec F (B n) .f32))
    (broadcast _ 0#32) (thr hi)) 2147483648#32 hr rfl) shapeCasts_S128_S1x128

/-- Half's word in place of 0. -/
def orHalf (b : IVec S1x128 32) : IVec S1x128 32 :=
  select (cmpi .eq b (broadcast S1x128 0#32)) (broadcast S1x128 1056964608#32) b

/-- The word the scale of every sample comes from. -/
def word (y : FVec F S1x128 .f32) : IVec S1x128 32 :=
  orHalf (wordFold iota_S255x128_d0_w32 broadcasts_S1x128_S255x128 reduces_S255x128_S128 y)

/-- The scale of every sample. -/
def pow (b : IVec S1x128 32) : FVec F S1x128 .f32 := bitcastToFloat .f32 (addi b (broadcast S1x128 8388608#32))

/-- The codes. -/
def codes {n : ℕ} (hb : S1x128.Broadcasts (B n)) (v : FVec F (B n) .f32) (b : IVec S1x128 32) : FVec F (B n) .fp8e4m3 :=
  truncf .fp8e4m3 (minimumf (broadcast _ (Scalar.ofBits .f32 0x43E00000#32)) (maximumf (broadcast _ (Scalar.ofBits .f32 0xC3E00000#32))
    (mulf v (broadcastTo (B n) (bitcastToFloat .f32 (subi (broadcast S1x128 2122317824#32) b)) hb)))) bitsLt_fp8e4m3_f32

/-- The matrix product's result times the sample's and the output's scale. -/
def scaled {n : ℕ} (hb : S1x128.Broadcasts (B n)) (hc : (⟨2, ![n, 1]⟩ : Shape).ShapeCasts ⟨2, ![n, 1]⟩)
    (hd : (⟨2, ![n, 1]⟩ : Shape).Broadcasts (B n)) (acc : FVec F (B n) .f32) (s : FVec F S1x128 .f32) (t : Vec F ⟨2, ![n, 1]⟩ .f32) : FVec F (B n) .f32 :=
  mulf (mulf acc (broadcastTo (B n) s hb)) (broadcastTo (B n) (shapeCast ⟨2, ![n, 1]⟩ t hc) hd)

/-- The positive part. -/
def relu {n : ℕ} (v : FVec F (B n) .f32) : FVec F (B n) .f32 :=
  maximumf v (broadcast _ (Scalar.ofBits .f32 0x00000000#32))

def dot64x32 (w : Vec F S64x32 .fp8e4m3) (q : FVec F S32x128 .fp8e4m3) : FVec F S64x128 .f32 :=
  matmul dot_S64x32_S32x128_S64x128_1_0_0_1_n_n none (shapeCast S64x32 w shapeCasts_S64x32_S64x32) q (constant S64x128 .f32 0x00000000#32)
def dot16x64 (w : Vec F S16x64 .fp8e4m3) (q : FVec F S64x128 .fp8e4m3) : FVec F S16x128 .f32 :=
  matmul dot_S16x64_S64x128_S16x128_1_0_0_1_n_n none (shapeCast S16x64 w shapeCasts_S16x64_S16x64) q (constant S16x128 .f32 0x00000000#32)
def dot64x64 (w : Vec F S64x64 .fp8e4m3) (q : FVec F S64x128 .fp8e4m3) : FVec F S64x128 .f32 :=
  matmul dot_S64x64_S64x128_S64x128_1_0_0_1_n_n none (shapeCast S64x64 w shapeCasts_S64x64_S64x64) q (constant S64x128 .f32 0x00000000#32)
def dot3x64 (w : Vec F S3x64 .fp8e4m3) (q : FVec F S64x128 .fp8e4m3) : FVec F S3x128 .f32 :=
  matmul dot_S3x64_S64x128_S3x128_1_0_0_1_n_n none (shapeCast S3x64 w shapeCasts_S3x64_S3x64) q (constant S3x128 .f32 0x00000000#32)

/-- The inputs every ray of a block shares: the table scale and the layers' weights and scales, as the body loads them. -/
structure W (F : FTy → Type) where
  ts : Vec F S32x1 .f32
  w0 : Vec F S64x32 .fp8e4m3
  t0 : Vec F S64x1 .f32
  w1 : Vec F S16x64 .fp8e4m3
  t1 : Vec F S16x1 .f32
  w2 : Vec F S64x32 .fp8e4m3
  t2 : Vec F S64x1 .f32
  w3 : Vec F S64x64 .fp8e4m3
  t3 : Vec F S64x1 .f32
  w4 : Vec F S3x64 .fp8e4m3
  t4 : Vec F S3x1 .f32

/-- One ray's inputs: the shared ones, its features, the block's harmonics, and its column among them. -/
structure Ray (F : FTy → Type) extends W F where
  f : Vec F S1x32x128 .f32
  sh : Vec F S16x56 .f32
  r : ℕ
  hr : S16x56.Slices ![0, r] S16x1

/-- The colour network's input from the density network's output and the ray's harmonics. -/
def cat (h : FVec F S16x128 .f32) (c : FVec F S16x1 .f32) : FVec F S32x128 .f32 :=
  concatenate S32x128 0 [⟨S16x128, h⟩, ⟨S16x128, broadcastTo S16x128 (shapeCast S16x1 c shapeCasts_S16x1_S16x1) broadcasts_S16x1_S16x128⟩]
    concatenates_S16x128_S16x128_S32x128_d0

namespace Ray
variable (R : Ray F)

def v0 : FVec F S32x128 .f32 :=
  mulf (shapeCast S32x128 R.f shapeCasts_S1x32x128_S32x128) (broadcastTo S32x128 (shapeCast S32x1 R.ts shapeCasts_S32x1_S32x1) broadcasts_S32x1_S32x128)
def e0 : IVec S1x128 32 := word (level reduces_S32x128_S128 R.v0)
def q0 : FVec F S32x128 .fp8e4m3 := codes broadcasts_S1x128_S32x128 R.v0 R.e0
def h1 : FVec F S64x128 .f32 := relu (scaled broadcasts_S1x128_S64x128 shapeCasts_S64x1_S64x1 broadcasts_S64x1_S64x128 (dot64x32 R.w0 R.q0) (pow R.e0) R.t0)
def e1 : IVec S1x128 32 := word (level reduces_S64x128_S128 R.h1)
def q1 : FVec F S64x128 .fp8e4m3 := codes broadcasts_S1x128_S64x128 R.h1 R.e1
def h : FVec F S16x128 .f32 := scaled broadcasts_S1x128_S16x128 shapeCasts_S16x1_S16x1 broadcasts_S16x1_S16x128 (dot16x64 R.w1 R.q1) (pow R.e1) R.t1
def cin : FVec F S32x128 .f32 := cat R.h (extractStridedSlice S16x1 ![0, R.r] R.sh R.hr)
def e2 : IVec S1x128 32 := word (level reduces_S32x128_S128 R.cin)
def q2 : FVec F S32x128 .fp8e4m3 := codes broadcasts_S1x128_S32x128 R.cin R.e2
def g1 : FVec F S64x128 .f32 := relu (scaled broadcasts_S1x128_S64x128 shapeCasts_S64x1_S64x1 broadcasts_S64x1_S64x128 (dot64x32 R.w2 R.q2) (pow R.e2) R.t2)
def e3 : IVec S1x128 32 := word (level reduces_S64x128_S128 R.g1)
def q3 : FVec F S64x128 .fp8e4m3 := codes broadcasts_S1x128_S64x128 R.g1 R.e3
def g2 : FVec F S64x128 .f32 := relu (scaled broadcasts_S1x128_S64x128 shapeCasts_S64x1_S64x1 broadcasts_S64x1_S64x128 (dot64x64 R.w3 R.q3) (pow R.e3) R.t3)
def e4 : IVec S1x128 32 := word (level reduces_S64x128_S128 R.g2)
def q4 : FVec F S64x128 .fp8e4m3 := codes broadcasts_S1x128_S64x128 R.g2 R.e4
def o : FVec F S3x128 .f32 := scaled broadcasts_S1x128_S3x128 shapeCasts_S3x1_S3x1 broadcasts_S3x1_S3x128 (dot3x64 R.w4 R.q4) (pow R.e4) R.t4
/-- The density row. -/
def sig : FVec F S1x128 .f32 := extractStridedSlice S1x128 ![0, 0] R.h slices_S16x128_o0_0_S1x128
/-- A colour's row. -/
def ch (k : ℕ) (hk : S3x128.Slices ![k, 0] S1x128) : FVec F S1x128 .f32 := extractStridedSlice S1x128 ![k, 0] R.o hk
end Ray

/-- Codes as a block's row. -/
def c32 (q : FVec F S32x128 .fp8e4m3) : FVec F S1x32x128 .fp8e4m3 := shapeCast S1x32x128 q shapeCasts_S32x128_S1x32x128
def c64 (q : FVec F S64x128 .fp8e4m3) : FVec F S1x64x128 .fp8e4m3 := shapeCast S1x64x128 q shapeCasts_S64x128_S1x64x128
/-- A scratch row, as the body stores it. -/
def row (s : FVec F S1x128 .f32) : FVec F S1x128 .f32 := shapeCast S1x128 s shapeCasts_S1x128_S1x128
def row3 (s : FVec F S1x128 .f32) : FVec F S1x1x128 .f32 := shapeCast S1x1x128 s shapeCasts_S1x128_S1x1x128

theorem level_at {n : ℕ} (h) (v : FVec Ideal (B n) .f32) (b : Fin 128) :
    level h v (ix2 (0 : Fin 1) b) = Spec.level fun k : Fin n => v (ix2 k b) := by
  pointwise [level, Spec.level]

theorem wordFold_at {n : ℕ} (hi hb hr) (y : FVec Ideal S1x128 .f32) (b : Fin 128) :
    wordFold (n := n) hi hb hr y (ix2 (0 : Fin 1) b) = Spec.wordFold n (y (ix2 0 b)) := by
  pointwise [wordFold, thr, Spec.wordFold]

theorem word_at (y : FVec Ideal S1x128 .f32) (b : Fin 128) : word y (ix2 (0 : Fin 1) b) = Spec.word 255 (y (ix2 0 b)) := by
  rw [Spec.word, ← wordFold_at iota_S255x128_d0_w32 broadcasts_S1x128_S255x128 reduces_S255x128_S128]; rfl

theorem pow_at (e : IVec S1x128 32) (b : Fin 128) :
    pow (F := Ideal) e (ix2 (0 : Fin 1) b) = Spec.bits (IntOp.addi (e (ix2 0 b)) 8388608#32) := by
  pointwise [pow]

theorem codes_at {n : ℕ} (hb) (v : FVec Ideal (B n) .f32) (e : IVec S1x128 32) (b : Fin 128) (k : Fin n) :
    codes hb v e (ix2 k b) = min (Spec.bits 1138753536#32) (max (Spec.bits 3286237184#32) (v (ix2 k b) *
      Spec.bits (IntOp.subi 2122317824#32 (e (ix2 0 b))))) := by
  pointwise [codes]

theorem relu_at {n : ℕ} (v : FVec Ideal (B n) .f32) (b : Fin 128) (k : Fin n) :
    relu v (ix2 k b) = max (v (ix2 k b)) 0 := by
  pointwise [relu]

theorem scaled64_at (hb hc hd) (acc : FVec Ideal (B 64) .f32) (s : FVec Ideal S1x128 .f32) (t : Vec Ideal ⟨2, ![64, 1]⟩ .f32)
    (b : Fin 128) (k : Fin 64) :
    scaled hb hc hd acc s t (ix2 k b) = acc (ix2 k b) * s (ix2 0 b) * t (ix2 k 0) := by
  pointwise [scaled]
theorem scaled16_at (hb hc hd) (acc : FVec Ideal (B 16) .f32) (s : FVec Ideal S1x128 .f32) (t : Vec Ideal ⟨2, ![16, 1]⟩ .f32)
    (b : Fin 128) (k : Fin 16) :
    scaled hb hc hd acc s t (ix2 k b) = acc (ix2 k b) * s (ix2 0 b) * t (ix2 k 0) := by
  pointwise [scaled]
theorem scaled3_at (hb hc hd) (acc : FVec Ideal (B 3) .f32) (s : FVec Ideal S1x128 .f32) (t : Vec Ideal ⟨2, ![3, 1]⟩ .f32)
    (b : Fin 128) (k : Fin 3) :
    scaled hb hc hd acc s t (ix2 k b) = acc (ix2 k b) * s (ix2 0 b) * t (ix2 k 0) := by
  pointwise [scaled]
theorem dot64x32_at (w : Vec Ideal S64x32 .fp8e4m3) (q : FVec Ideal S32x128 .fp8e4m3) (b : Fin 128) (k : Fin 64) :
    dot64x32 w q (ix2 k b) = ∑ x : Fin 32, q (ix2 x b) * w (ix2 k x) := by
  pointwise [dot64x32]
  exact Finset.sum_congr rfl fun x _ => mul_comm _ _
theorem dot16x64_at (w : Vec Ideal S16x64 .fp8e4m3) (q : FVec Ideal S64x128 .fp8e4m3) (b : Fin 128) (k : Fin 16) :
    dot16x64 w q (ix2 k b) = ∑ x : Fin 64, q (ix2 x b) * w (ix2 k x) := by
  pointwise [dot16x64]
  exact Finset.sum_congr rfl fun x _ => mul_comm _ _
theorem dot64x64_at (w : Vec Ideal S64x64 .fp8e4m3) (q : FVec Ideal S64x128 .fp8e4m3) (b : Fin 128) (k : Fin 64) :
    dot64x64 w q (ix2 k b) = ∑ x : Fin 64, q (ix2 x b) * w (ix2 k x) := by
  pointwise [dot64x64]
  exact Finset.sum_congr rfl fun x _ => mul_comm _ _
theorem dot3x64_at (w : Vec Ideal S3x64 .fp8e4m3) (q : FVec Ideal S64x128 .fp8e4m3) (b : Fin 128) (k : Fin 3) :
    dot3x64 w q (ix2 k b) = ∑ x : Fin 64, q (ix2 x b) * w (ix2 k x) := by
  pointwise [dot3x64]
  exact Finset.sum_congr rfl fun x _ => mul_comm _ _

theorem code_at {n : ℕ} {hr hb} {v : FVec Ideal (B n) .f32} {g : Fin n → EReal} {b : Fin 128}
    (h : ∀ k, v (ix2 k b) = g k) (k : Fin n) : codes hb v (word (level hr v)) (ix2 k b) = Spec.code g k := by
  rw [codes_at, word_at, level_at, h, funext h, ← Spec.inv_word]; rfl

theorem scale_at {n : ℕ} {hr} {v : FVec Ideal (B n) .f32} {g : Fin n → EReal} {b : Fin 128}
    (h : ∀ k, v (ix2 k b) = g k) : pow (F := Ideal) (word (level hr v)) (ix2 (0 : Fin 1) b) = Spec.scale g := by
  rw [pow_at, word_at, level_at, funext h, ← Spec.scale_word]; rfl

theorem cat_lo (h : FVec Ideal S16x128 .f32) (c : FVec Ideal S16x1 .f32) (b : Fin 128) (k : Fin 32) (hk : (k : ℕ) < 16) :
    cat h c (ix2 k b) = h (ix2 ⟨k, hk⟩ b) := by
  pointwise [cat]
  rw [dif_pos hk]

theorem cat_hi (h : FVec Ideal S16x128 .f32) (c : FVec Ideal S16x1 .f32) (b : Fin 128) (k : Fin 32) (hk : ¬ (k : ℕ) < 16) :
    cat h c (ix2 k b) = c (ix2 ⟨(k : ℕ) - 16, by omega⟩ 0) := by
  pointwise [cat]
  rw [dif_neg hk]

namespace Ray

/-- The ray's inputs at sample `b` are the network's `N`. -/
structure Is (R : Ray Ideal) (b : Fin 128) (N : Spec.Net) : Prop where
  f k : R.f (ix3 0 k b) * R.ts (ix2 k 0) = N.f k
  sh (k : Fin 16) : extractStridedSlice S16x1 ![0, R.r] R.sh R.hr (ix2 k (0 : Fin 1)) = Spec.sh k (N.d 0) (N.d 1) (N.d 2)
  w0 i j : R.w0 (ix2 j i) = N.w0 i j
  t0 j : R.t0 (ix2 j 0) = N.t0 j
  w1 i j : R.w1 (ix2 j i) = N.w1 i j
  t1 j : R.t1 (ix2 j 0) = N.t1 j
  w2 i j : R.w2 (ix2 j i) = N.w2 i j
  t2 j : R.t2 (ix2 j 0) = N.t2 j
  w3 i j : R.w3 (ix2 j i) = N.w3 i j
  t3 j : R.t3 (ix2 j 0) = N.t3 j
  w4 i j : R.w4 (ix2 j i) = N.w4 i j
  t4 j : R.t4 (ix2 j 0) = N.t4 j

variable {R : Ray Ideal} {b : Fin 128} {N : Spec.Net} (H : R.Is b N)
include H

theorem v0_at (k : Fin 32) : R.v0 (ix2 k b) = N.f k := by
  rw [← H.f]; pointwise [v0]
theorem q0_at (k : Fin 32) : R.q0 (ix2 k b) = Spec.code N.f k := code_at (v0_at H) k
theorem s0_at : pow (F := Ideal) R.e0 (ix2 (0 : Fin 1) b) = Spec.scale N.f := scale_at (v0_at H)
theorem h1_at (k : Fin 64) : R.h1 (ix2 k b) = N.h1 k := by
  rw [h1, relu_at, scaled64_at, dot64x32_at, s0_at H, H.t0]
  simp only [q0_at H, H.w0]; rfl
theorem q1_at (k : Fin 64) : R.q1 (ix2 k b) = Spec.code N.h1 k := code_at (h1_at H) k
theorem s1_at : pow (F := Ideal) R.e1 (ix2 (0 : Fin 1) b) = Spec.scale N.h1 := scale_at (h1_at H)
theorem h_at (k : Fin 16) : R.h (ix2 k b) = N.h k := by
  rw [h, scaled16_at, dot16x64_at, s1_at H, H.t1]
  simp only [q1_at H, H.w1]; rfl
theorem cin_at (k : Fin 32) : R.cin (ix2 k b) = N.cin k := by
  rw [cin, Spec.Net.cin]
  by_cases hk : (k : ℕ) < 16
  · rw [cat_lo _ _ _ _ hk, dif_pos hk, h_at H]
  · rw [cat_hi _ _ _ _ hk, dif_neg hk, H.sh]
theorem q2_at (k : Fin 32) : R.q2 (ix2 k b) = Spec.code N.cin k := code_at (cin_at H) k
theorem s2_at : pow (F := Ideal) R.e2 (ix2 (0 : Fin 1) b) = Spec.scale N.cin := scale_at (cin_at H)
theorem g1_at (k : Fin 64) : R.g1 (ix2 k b) = N.g1 k := by
  rw [g1, relu_at, scaled64_at, dot64x32_at, s2_at H, H.t2]
  simp only [q2_at H, H.w2]; rfl
theorem q3_at (k : Fin 64) : R.q3 (ix2 k b) = Spec.code N.g1 k := code_at (g1_at H) k
theorem s3_at : pow (F := Ideal) R.e3 (ix2 (0 : Fin 1) b) = Spec.scale N.g1 := scale_at (g1_at H)
theorem g2_at (k : Fin 64) : R.g2 (ix2 k b) = N.g2 k := by
  rw [g2, relu_at, scaled64_at, dot64x64_at, s3_at H, H.t3]
  simp only [q3_at H, H.w3]; rfl
theorem q4_at (k : Fin 64) : R.q4 (ix2 k b) = Spec.code N.g2 k := code_at (g2_at H) k
theorem s4_at : pow (F := Ideal) R.e4 (ix2 (0 : Fin 1) b) = Spec.scale N.g2 := scale_at (g2_at H)
theorem o_at (k : Fin 3) : R.o (ix2 k b) = N.o k := by
  rw [o, scaled3_at, dot3x64_at, s4_at H, H.t4]
  simp only [q4_at H, H.w4]; rfl
theorem sig_at : R.sig (ix2 (0 : Fin 1) b) = N.h 0 := by
  rw [← h_at H]; pointwise [sig]
theorem ch_at (k : ℕ) (hk) (h3 : k < 3) : R.ch k hk (ix2 (0 : Fin 1) b) = N.o ⟨k, h3⟩ := by
  rw [← o_at H]; pointwise [ch]
end Ray

end Cert.Proof.Ker
-- ==== Proof.KerBody.lean ====
/- The rays of the body at a grid point, and the lists its stores make. -/
module

public import proofs.«01_k».proof.Proof.Gen.KernelIdeal.Frame
public import proofs.«01_k».proof.Proof.KerOps

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]

/-- The pieces `p 0`, …, `p (n - 1)`, the last first. -/
def rows {α : Type} {N : ℕ} (p : Fin N → α) : (n : ℕ) → n ≤ N → List α
  | 0, _ => []
  | n + 1, h => p ⟨n, h⟩ :: rows p n (Nat.le_of_succ_le h)

theorem mem_rows {α : Type} {N : ℕ} (p : Fin N → α) (x : α) : ∀ (n : ℕ) (h : n ≤ N), x ∈ rows p n h ↔ ∃ r : Fin N, (r : ℕ) < n ∧ p r = x
  | 0, _ => by simp [rows]
  | n + 1, h => by
    rw [rows, List.mem_cons, mem_rows p x n]
    constructor
    · rintro (rfl | ⟨r, hr, rfl⟩)
      · exact ⟨⟨n, h⟩, Nat.lt_succ_self n, rfl⟩
      · exact ⟨r, Nat.lt_succ_of_lt hr, rfl⟩
    · rintro ⟨r, hr, rfl⟩
      rcases Nat.lt_succ_iff_lt_or_eq.mp hr with hr | rfl
      · exact .inr ⟨r, hr, rfl⟩
      · exact .inl rfl

/-- A buffer stored row after row holds at an index of row `r` what `G` says, when every row's payload does. -/
theorem canon_rows {Val : EltTy → Type} [∀ e, Nonempty (Val e)] {S : Shape} {e : EltTy} {N : ℕ} (p : Fin N → View.Piece Val S e) (G : S.Idx → Val e)
    (h : ∀ r x, (p r).2 x = G ((p r).1.emb x)) (r : Fin N) (x : (p r).1.shape.Idx) :
    View.canon (rows p N le_rfl) ((p r).1.emb x) = (p r).2 x := by
  rw [h]
  refine View.canon_apply_of_pieces G _ (fun q hq => ?_) _ ⟨p r, (mem_rows p _ N le_rfl).2 ⟨r, r.2, rfl⟩, (p r).1.idx_mem x⟩
  obtain ⟨r', -, rfl⟩ := (mem_rows p q N le_rfl).1 hq
  exact h r'

/-- Three pieces for each number below `n`, the last first. -/
def rows3 {α : Type} (p : Fin 3 → Fin 56 → α) : (n : ℕ) → n ≤ 56 → List α
  | 0, _ => []
  | n + 1, h => p 2 ⟨n, h⟩ :: p 1 ⟨n, h⟩ :: p 0 ⟨n, h⟩ :: rows3 p n (Nat.le_of_succ_le h)

theorem inb32 (r : Fin 56) : ∀ a, (![(r : ℕ), 0, 0] : Fin 3 → ℕ) a + S1x32x128.size a ≤ S56x32x128.size a := by revert r; decide +kernel
theorem inb64 (r : Fin 56) : ∀ a, (![(r : ℕ), 0, 0] : Fin 3 → ℕ) a + S1x64x128.size a ≤ S56x64x128.size a := by revert r; decide +kernel
theorem inb1 (r : Fin 56) : ∀ a, (![(r : ℕ), 0] : Fin 2 → ℕ) a + S1x128.size a ≤ S56x128.size a := by revert r; decide +kernel
theorem inb3 (k : Fin 3) (r : Fin 56) : ∀ a, (![(k : ℕ), (r : ℕ), 0] : Fin 3 → ℕ) a + S1x1x128.size a ≤ S3x56x128.size a := by revert k r; decide +kernel
theorem inbSh (k : Fin 16) : ∀ a, (![(k : ℕ), 0] : Fin 2 → ℕ) a + S1x56.size a ≤ S16x56.size a := by revert k; decide +kernel
theorem slices16 : ∀ r : Fin 56, S16x56.Slices ![0, (r : ℕ)] S16x1 := by decide +kernel
theorem slices3 : ∀ k : Fin 3, S3x128.Slices ![(k : ℕ), 0] S1x128 := by decide +kernel

variable (m : (ℓ : Loc nD τ sig) → Buf (Elt F) ℓ) (c : Dev nD) (t : Fin cfg0.N)

/-- The run of the body at point `t`. -/
def run :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What every ray of the block loads. -/
def shared : W F where
  ts := View.readAt (Elt F) (ms0_2 t).view (Rect.unit (s := S32x1) ![0, 0] S32x1.size inb_S32x1_S32x1_0_0).toLoadRect ((hs0_2 t).unread (iblk m c 2 t))
  w0 := View.readAt (Elt F) (ms0_3 t).view (Rect.unit (s := S64x32) ![0, 0] S64x32.size inb_S64x32_S64x32_0_0).toLoadRect ((hs0_3 t).unread (iblk m c 3 t))
  t0 := View.readAt (Elt F) (ms0_4 t).view (Rect.unit (s := S64x1) ![0, 0] S64x1.size inb_S64x1_S64x1_0_0).toLoadRect ((hs0_4 t).unread (iblk m c 4 t))
  w1 := View.readAt (Elt F) (ms0_5 t).view (Rect.unit (s := S16x64) ![0, 0] S16x64.size inb_S16x64_S16x64_0_0).toLoadRect ((hs0_5 t).unread (iblk m c 5 t))
  t1 := View.readAt (Elt F) (ms0_6 t).view (Rect.unit (s := S16x1) ![0, 0] S16x1.size inb_S16x1_S16x1_0_0).toLoadRect ((hs0_6 t).unread (iblk m c 6 t))
  w2 := View.readAt (Elt F) (ms0_7 t).view (Rect.unit (s := S64x32) ![0, 0] S64x32.size inb_S64x32_S64x32_0_0).toLoadRect ((hs0_7 t).unread (iblk m c 7 t))
  t2 := View.readAt (Elt F) (ms0_8 t).view (Rect.unit (s := S64x1) ![0, 0] S64x1.size inb_S64x1_S64x1_0_0).toLoadRect ((hs0_8 t).unread (iblk m c 8 t))
  w3 := View.readAt (Elt F) (ms0_9 t).view (Rect.unit (s := S64x64) ![0, 0] S64x64.size inb_S64x64_S64x64_0_0).toLoadRect ((hs0_9 t).unread (iblk m c 9 t))
  t3 := View.readAt (Elt F) (ms0_10 t).view (Rect.unit (s := S64x1) ![0, 0] S64x1.size inb_S64x1_S64x1_0_0).toLoadRect ((hs0_10 t).unread (iblk m c 10 t))
  w4 := View.readAt (Elt F) (ms0_11 t).view (Rect.unit (s := S3x64) ![0, 0] S3x64.size inb_S3x64_S3x64_0_0).toLoadRect ((hs0_11 t).unread (iblk m c 11 t))
  t4 := View.readAt (Elt F) (ms0_12 t).view (Rect.unit (s := S3x1) ![0, 0] S3x1.size inb_S3x1_S3x1_0_0).toLoadRect ((hs0_12 t).unread (iblk m c 12 t))

/-- The block's harmonics, as the body reads them back. -/
def harm : Vec F S16x56 .f32 := kernelRun0_A.sl.v122 c (ms0_1 t) (hs0_1 t) scM0_0 (iblk m c 1 t)

/-- Ray `r` of the block. -/
def ray (r : Fin 56) : Ray F where
  toW := shared m c t
  f := View.readAt (Elt F) (ms0_0 t).view (Rect.unit (s := S56x32x128) ![(r : ℕ), 0, 0] S1x32x128.size (inb32 r)).toLoadRect ((hs0_0 t).unread (iblk m c 0 t))
  sh := harm m c t
  r := r
  hr := slices16 r

end Cert.Proof.Ker
end
-- ==== Proof.KerRows6.lean ====
/- The harmonics, as the body stores them and reads them back. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

/-- The directions of the block, as the body loads them. -/
def dirs : Vec F S1x3x56 .f32 := View.readAt (Elt F) (ms0_1 t).view (Rect.unit (s := S1x3x56) ![0, 0, 0] S1x3x56.size inb_S1x3x56_S1x3x56_0_0_0).toLoadRect ((hs0_1 t).unread (iblk m c 1 t))

/-- The harmonics of every ray of the block, a row each. -/
def harmRow (d : Vec F S1x3x56 .f32) : Fin 16 → FVec F S1x56 .f32 :=
  ![k0_pay28 k0_pay11, k0_pay29 (k0_pay12 d), k0_pay30 (k0_pay13 d), k0_pay31 (k0_pay14 d), k0_pay32 (k0_pay15 d), k0_pay33 (k0_pay16 d),
    k0_pay34 (k0_pay17 d), k0_pay35 (k0_pay18 d), k0_pay36 (k0_pay19 d), k0_pay37 (k0_pay20 d), k0_pay38 (k0_pay21 d),
    k0_pay39 (k0_pay23 (k0_pay6 d) (k0_pay10 d) k0_pay22), k0_pay40 (k0_pay24 (k0_pay7 d) (k0_pay10 d)),
    k0_pay41 (k0_pay25 (k0_pay5 d) (k0_pay10 d)), k0_pay42 (k0_pay26 (k0_pay7 d) (k0_pay8 d) (k0_pay9 d)),
    k0_pay43 (k0_pay27 (k0_pay5 d) (k0_pay8 d) (k0_pay9 d))]

/-- The harmonics' pieces, row after row. -/
def harmPiece (d : Vec F S1x3x56 .f32) (k : Fin 16) : View.Piece (Elt F) S16x56 .f32 :=
  ⟨Rect.unit (s := S16x56) ![(k : ℕ), 0] S1x56.size (inbSh k), harmRow d k⟩

theorem harm_eq : harm m c t = scM0_0.view.readCov (rows (harmPiece (dirs m c t)) 16 le_rfl)
    (Rect.unit (s := S16x56) ![0, 0] S16x56.size inb_S16x56_S16x56_0_0).toLoadRect := by
  sl_kernel_rfl

theorem harmRow_at (d : Vec Ideal S1x3x56 .f32) (k : Fin 16) (r : Fin 56) :
    harmRow d k (ix2 (0 : Fin 1) r) = Spec.sh k (d (ix3 0 0 r)) (d (ix3 0 1 r)) (d (ix3 0 2 r)) := by
  fin_cases k <;> pointwise [harmRow, Spec.sh, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]

end Cert.Proof.Ker
end
-- ==== Proof.Arrays.lean ====
/- The network at every ray and sample from the programs' arguments, and the twelve result arrays from it. -/
module

public import proofs.«01_k».proof.Proof.Spec

@[expose] public section

noncomputable section

namespace Cert.Proof.Spec

open Idealize.ShloMosaic

/-- The programs' thirteen arguments. -/
structure Args where
  enc : FVec Ideal ⟨4, ![2520, 16, 2, 128]⟩ .f32
  dirs : FVec Ideal ⟨2, ![2500, 3]⟩ .f32
  ts : FVec Ideal ⟨1, ![16]⟩ .f32
  w0 : FVec Ideal ⟨2, ![32, 64]⟩ .fp8e4m3
  t0 : FVec Ideal ⟨1, ![64]⟩ .f32
  w1 : FVec Ideal ⟨2, ![64, 16]⟩ .fp8e4m3
  t1 : FVec Ideal ⟨1, ![16]⟩ .f32
  w2 : FVec Ideal ⟨2, ![32, 64]⟩ .fp8e4m3
  t2 : FVec Ideal ⟨1, ![64]⟩ .f32
  w3 : FVec Ideal ⟨2, ![64, 64]⟩ .fp8e4m3
  t3 : FVec Ideal ⟨1, ![64]⟩ .f32
  w4 : FVec Ideal ⟨2, ![64, 3]⟩ .fp8e4m3
  t4 : FVec Ideal ⟨1, ![3]⟩ .f32

namespace Args
variable (X : Args)

/-- The network's inputs at ray `a` and sample `b`: channel `k` is feature `k % 2` of level `k / 2`, times that level's scale. -/
def net (a : Fin 2500) (b : Fin 128) : Net where
  f k := X.enc (ix4 ⟨a, by omega⟩ ⟨(k : ℕ) / 2, by omega⟩ ⟨(k : ℕ) % 2, by omega⟩ b) * X.ts (ix1 ⟨(k : ℕ) / 2, by omega⟩)
  d k := X.dirs (ix2 a k)
  w0 i j := X.w0 (ix2 i j)
  t0 j := X.t0 (ix1 j)
  w1 i j := X.w1 (ix2 i j)
  t1 j := X.t1 (ix1 j)
  w2 i j := X.w2 (ix2 i j)
  t2 j := X.t2 (ix1 j)
  w3 i j := X.w3 (ix2 i j)
  t3 j := X.t3 (ix1 j)
  w4 i j := X.w4 (ix2 i j)
  t4 j := X.t4 (ix1 j)

/-- The densities. -/
def sigma : FVec Ideal ⟨2, ![2500, 128]⟩ .bf16 := fun j => Ideal.exp ((X.net (j 0) (j 1)).h 0)
/-- The colours. -/
def rgb : FVec Ideal ⟨3, ![3, 2500, 128]⟩ .bf16 := fun j => Ideal.logistic ((X.net (j 1) (j 2)).o (j 0))
/-- The codes of a layer's input `v`. -/
def codes {n : ℕ} (v : Net → Fin n → EReal) : FVec Ideal ⟨3, ![2500, n, 128]⟩ .fp8e4m3 := fun j => code (v (X.net (j 0) (j 2))) (j 1)
/-- The scales of a layer's input `v`. -/
def scales {n : ℕ} (v : Net → Fin n → EReal) : FVec Ideal ⟨2, ![2500, 128]⟩ .f32 := fun j => scale (v (X.net (j 0) (j 1)))

end Args

end Cert.Proof.Spec
-- ==== Proof.KerIn.lean ====
/- The kernel's operands at an index, and every ray's inputs as the network's. -/
module

public import proofs.«01_k».proof.Proof.KerRows6
public import proofs.«01_k».proof.Proof.Arrays
public import Idealize.ShloMosaic.Lib.Pipeline.ValueKit
public import Idealize.ShloMosaic.Lib.WholeRead

@[expose] public section

set_option maxRecDepth 16384

noncomputable section

namespace Cert.Proof.Ker

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The arguments as launched. -/
def args : Spec.Args where
  enc := m ((c : Thread nD τ).loc main_arg0)
  dirs := m ((c : Thread nD τ).loc main_arg1)
  ts := m ((c : Thread nD τ).loc main_arg2)
  w0 := m ((c : Thread nD τ).loc main_arg3)
  t0 := m ((c : Thread nD τ).loc main_arg4)
  w1 := m ((c : Thread nD τ).loc main_arg5)
  t1 := m ((c : Thread nD τ).loc main_arg6)
  w2 := m ((c : Thread nD τ).loc main_arg7)
  t2 := m ((c : Thread nD τ).loc main_arg8)
  w3 := m ((c : Thread nD τ).loc main_arg9)
  t3 := m ((c : Thread nD τ).loc main_arg10)
  w4 := m ((c : Thread nD τ).loc main_arg11)
  t4 := m ((c : Thread nD τ).loc main_arg12)

theorem V0 (a : Fin 2520) (k : Fin 32) (b : Fin 128) : (V m c main_v0 : FVec Ideal S2520x32x128 .f32) (ix3 a k b) =
    (args m c).enc (ix4 a ⟨(k : ℕ) / 2, by omega⟩ ⟨(k : ℕ) % 2, by omega⟩ b) := by
  simp only [V, hostOps0, hostOps0_1, hostOps0_2, List.flatten_cons, List.flatten_nil, List.append_nil, List.cons_append, List.nil_append]
  after_results
  pointwise [args]

theorem V6 (k : Fin 32) : (V m c main_v6 : FVec Ideal S32x1 .f32) (ix2 k 0) = (args m c).ts (ix1 ⟨(k : ℕ) / 2, by omega⟩) := by
  simp only [V, hostOps0, hostOps0_1, hostOps0_2, List.flatten_cons, List.flatten_nil, List.append_nil, List.cons_append, List.nil_append]
  after_results
  pointwise [args]

theorem V7 (i : Fin 32) (j : Fin 64) : (V m c main_v7 : FVec Ideal S64x32 .fp8e4m3) (ix2 j i) = (args m c).w0 (ix2 i j) := by
  simp only [V, hostOps0, hostOps0_1, hostOps0_2, List.flatten_cons, List.flatten_nil, List.append_nil, List.cons_append, List.nil_append]
  after_results
  pointwise [args]

theorem V8 (j : Fin 64) : (V m c main_v8 : FVec Ideal S64x1 .f32) (ix2 j 0) = (args m c).t0 (ix1 j) := by
  simp only [V, hostOps0, hostOps0_1, hostOps0_2, List.flatten_cons, List.flatten_nil, List.append_nil, List.cons_append, List.nil_append]
  after_results
  pointwise [args]

theorem V9 (i : Fin 64) (j : Fin 16) : (V m c main_v9 : FVec Ideal S16x64 .fp8e4m3) (ix2 j i) = (args m c).w1 (ix2 i j) := by
  simp only [V, hostOps0, hostOps0_1, hostOps0_2, List.flatten_cons, List.flatten_nil, List.append_nil, List.cons_append, List.nil_append]
  after_results
  pointwise [args]

theorem V10 (j : Fin 16) : (V m c main_v10 : FVec Ideal S16x1 .f32) (ix2 j 0) = (args m c).t1 (ix1 j) := by
  simp only [V, hostOps0, hostOps0_1, hostOps0_2, List.flatten_cons, List.flatten_nil, List.append_nil, List.cons_append, List.nil_append]
  after_results
  pointwise [args]

theorem V11 (i : Fin 32) (j : Fin 64) : (V m c main_v11 : FVec Ideal S64x32 .fp8e4m3) (ix2 j i) = (args m c).w2 (ix2 i j) := by
  simp only [V, hostOps0, hostOps0_1, hostOps0_2, List.flatten_cons, List.flatten_nil, List.append_nil, List.cons_append, List.nil_append]
  after_results
  pointwise [args]

theorem V12 (j : Fin 64) : (V m c main_v12 : FVec Ideal S64x1 .f32) (ix2 j 0) = (args m c).t2 (ix1 j) := by
  simp only [V, hostOps0, hostOps0_1, hostOps0_2, List.flatten_cons, List.flatten_nil, List.append_nil, List.cons_append, List.nil_append]
  after_results
  pointwise [args]

theorem V13 (i : Fin 64) (j : Fin 64) : (V m c main_v13 : FVec Ideal S64x64 .fp8e4m3) (ix2 j i) = (args m c).w3 (ix2 i j) := by
  simp only [V, hostOps0, hostOps0_1, hostOps0_2, List.flatten_cons, List.flatten_nil, List.append_nil, List.cons_append, List.nil_append]
  after_results
  pointwise [args]

theorem V14 (j : Fin 64) : (V m c main_v14 : FVec Ideal S64x1 .f32) (ix2 j 0) = (args m c).t3 (ix1 j) := by
  simp only [V, hostOps0, hostOps0_1, hostOps0_2, List.flatten_cons, List.flatten_nil, List.append_nil, List.cons_append, List.nil_append]
  after_results
  pointwise [args]

theorem V15 (i : Fin 64) (j : Fin 3) : (V m c main_v15 : FVec Ideal S3x64 .fp8e4m3) (ix2 j i) = (args m c).w4 (ix2 i j) := by
  simp only [V, hostOps0, hostOps0_1, hostOps0_2, List.flatten_cons, List.flatten_nil, List.append_nil, List.cons_append, List.nil_append]
  after_results
  pointwise [args]

theorem V16 (j : Fin 3) : (V m c main_v16 : FVec Ideal S3x1 .f32) (ix2 j 0) = (args m c).t4 (ix1 j) := by
  simp only [V, hostOps0, hostOps0_1, hostOps0_2, List.flatten_cons, List.flatten_nil, List.append_nil, List.cons_append, List.nil_append]
  after_results
  pointwise [args]

theorem V3 (g : Fin 45) (k : Fin 3) (r : Fin 56) (h : (g : ℕ) * 56 + r < 2500) : (V m c main_v3 : FVec Ideal S45x3x56 .f32) (ix3 g k r) =
    (args m c).dirs (ix2 ⟨(g : ℕ) * 56 + r, h⟩ k) := by
  simp only [V, hostOps0, hostOps0_1, hostOps0_2, List.flatten_cons, List.flatten_nil, List.append_nil, List.cons_append, List.nil_append]
  after_results
  pointwise [args]
  show pad (α := EReal) S2520x3 ![0, 0] ![20, 0] ![0, 0] (m ((c : Thread nD τ).loc main_arg1) : FVec Ideal S2500x3 .f32) (sitofp (F := Ideal) .f32 (constantI S_ 32 0#32)) pads_S2500x3_S2520x3_0200_000 h_S_
    (ix2 ⟨(g : ℕ) * 56 + r, _⟩ k) = _
  pointwise
  refine dif_pos (show ∀ a : Fin 2, _ from fun a => ?_)
  fin_cases a
  · exact ⟨Nat.zero_le _, Nat.mod_one _, by show ((g : ℕ) * 56 + r - 0) / (0 + 1) < 2500; omega⟩
  · exact ⟨Nat.zero_le _, Nat.mod_one _, by show ((k : ℕ) - 0) / (0 + 1) < 3; omega⟩

theorem idx : ∀ t : Fin cfg0.N, win0_0.index t = ![(t : ℕ), 0, 0] ∧ win0_1.index t = ![(t : ℕ), 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![(t : ℕ), 0] ∧ win0_14.index t = ![0, (t : ℕ), 0] ∧ win0_15.index t = ![(t : ℕ), 0, 0] ∧ win0_16.index t = ![(t : ℕ), 0] ∧ win0_17.index t = ![(t : ℕ), 0, 0] ∧ win0_18.index t = ![(t : ℕ), 0] ∧ win0_19.index t = ![(t : ℕ), 0, 0] ∧ win0_20.index t = ![(t : ℕ), 0] ∧ win0_21.index t = ![(t : ℕ), 0, 0] ∧ win0_22.index t = ![(t : ℕ), 0] ∧ win0_23.index t = ![(t : ℕ), 0, 0] ∧ win0_24.index t = ![(t : ℕ), 0] :=
  (by decide +kernel : ∀ t : Fin grid0.N, _)

theorem iblk0 (t : Fin cfg0.N) (r : Fin 56) (k : Fin 32) (b : Fin 128) (h : (t : ℕ) * 56 + r < 2520) :
    iblk m c 0 t (ix3 r k b) = (V m c main_v0 : FVec Ideal S2520x32x128 .f32) (ix3 ⟨(t : ℕ) * 56 + r, h⟩ k b) := by
  blk_simp [iblk, idx t]
  blk_ext [idx t]
theorem iblk1 (t : Fin cfg0.N) (k : Fin 3) (r : Fin 56) (h : (t : ℕ) < 45) :
    iblk m c 1 t (ix3 0 k r) = (V m c main_v3 : FVec Ideal S45x3x56 .f32) (ix3 ⟨t, h⟩ k r) := by
  blk_simp [iblk, idx t]
  blk_ext [idx t]
theorem iblk2 (t : Fin cfg0.N) : iblk m c 2 t = V m c main_v6 := by
  funext j
  blk_simp [iblk, idx t]
  blk_ext [idx t]
theorem iblk3 (t : Fin cfg0.N) : iblk m c 3 t = V m c main_v7 := by
  funext j
  blk_simp [iblk, idx t]
  blk_ext [idx t]
theorem iblk4 (t : Fin cfg0.N) : iblk m c 4 t = V m c main_v8 := by
  funext j
  blk_simp [iblk, idx t]
  blk_ext [idx t]
theorem iblk5 (t : Fin cfg0.N) : iblk m c 5 t = V m c main_v9 := by
  funext j
  blk_simp [iblk, idx t]
  blk_ext [idx t]
theorem iblk6 (t : Fin cfg0.N) : iblk m c 6 t = V m c main_v10 := by
  funext j
  blk_simp [iblk, idx t]
  blk_ext [idx t]
theorem iblk7 (t : Fin cfg0.N) : iblk m c 7 t = V m c main_v11 := by
  funext j
  blk_simp [iblk, idx t]
  blk_ext [idx t]
theorem iblk8 (t : Fin cfg0.N) : iblk m c 8 t = V m c main_v12 := by
  funext j
  blk_simp [iblk, idx t]
  blk_ext [idx t]
theorem iblk9 (t : Fin cfg0.N) : iblk m c 9 t = V m c main_v13 := by
  funext j
  blk_simp [iblk, idx t]
  blk_ext [idx t]
theorem iblk10 (t : Fin cfg0.N) : iblk m c 10 t = V m c main_v14 := by
  funext j
  blk_simp [iblk, idx t]
  blk_ext [idx t]
theorem iblk11 (t : Fin cfg0.N) : iblk m c 11 t = V m c main_v15 := by
  funext j
  blk_simp [iblk, idx t]
  blk_ext [idx t]
theorem iblk12 (t : Fin cfg0.N) : iblk m c 12 t = V m c main_v16 := by
  funext j
  blk_simp [iblk, idx t]
  blk_ext [idx t]
end Cert.Proof.Ker
end
-- ==== Proof.KerIs.lean ====
/- Every ray's inputs are the network's at the arguments. -/
module

public import proofs.«01_k».proof.Proof.KerIn

@[expose] public section

set_option maxRecDepth 16384

noncomputable section

namespace Cert.Proof.Ker

open Idealize.ShloMosaic Idealize.ShloMosaic.TcCoe Cert.KernelIdeal Cert.KernelIdeal.Gen

variable (m : (ℓ : Loc nD τ sig) → Buf (Elt Ideal) ℓ) (c : Dev nD) (t : Fin cfg0.N)

/-- A load of a whole buffer reads what it holds. -/
theorem load_whole {S : Shape} {e : EltTy} {b : Memref sig .tc .vmem S e} (h : b.IsWhole) (X : Vec Ideal S e) {off : Fin S.rank → ℕ} (inb)
    (h0 : ∀ a, off a = 0) (x : S.Idx) : View.readAt (Elt Ideal) b.view (Rect.unit (s := S) off S.size inb).toLoadRect (h.unread X) x = X x := by
  rw [h.readAt_unread]
  exact congrArg X (funext fun a => Fin.ext ((Rect.idx_unit_val off S.size inb x a).trans (by rw [h0, Nat.zero_add])))

theorem zero2 : ∀ a : Fin 2, (![0, 0] : Fin 2 → ℕ) a = 0 := by decide
theorem zero3 : ∀ a : Fin 3, (![0, 0, 0] : Fin 3 → ℕ) a = 0 := by decide

theorem feat_at (r : Fin 56) (k : Fin 32) (b : Fin 128) : (ray m c t r).f (ix3 0 k b) = iblk m c 0 t (ix3 r k b) := by
  unfold ray
  refine ((hs0_0 t).readAt_unread _ _ _).trans (congrArg (iblk m c 0 t) (funext fun a => Fin.ext ?_))
  refine (Rect.idx_unit_val _ _ _ _ a).trans ?_
  fin_cases a
  · exact Nat.add_zero _
  · exact Nat.zero_add _
  · exact Nat.zero_add _

theorem eta2 {M : ℕ} (x : (⟨2, ![1, M]⟩ : Shape).Idx) : x = ix2 (0 : Fin 1) (x 1) := by
  funext a
  fin_cases a
  · exact Subsingleton.elim (α := Fin 1) _ _
  · rfl

theorem eta3 {K M : ℕ} (x : (⟨3, ![1, K, M]⟩ : Shape).Idx) : x = ix3 (0 : Fin 1) (x 1) (x 2) := by
  funext a
  fin_cases a
  · exact Subsingleton.elim (α := Fin 1) _ _
  · rfl
  · rfl

theorem emb_row2 {N M : ℕ} (r : Fin N) (b : Fin M) (inb : ∀ a, (![(r : ℕ), 0] : Fin 2 → ℕ) a + (⟨2, ![1, M]⟩ : Shape).size a ≤ (⟨2, ![N, M]⟩ : Shape).size a) :
    (Rect.unit (s := ⟨2, ![N, M]⟩) ![(r : ℕ), 0] (⟨2, ![1, M]⟩ : Shape).size inb).emb (ix2 (0 : Fin 1) b) = ix2 r b := by
  funext a
  have h := (Rect.idx_unit_val (s := ⟨2, ![N, M]⟩) ![(r : ℕ), 0] (⟨2, ![1, M]⟩ : Shape).size inb (ix2 (0 : Fin 1) b) a)
  refine Fin.ext (Eq.trans h ?_)
  clear h
  fin_cases a
  · exact Nat.add_zero _
  · exact Nat.zero_add _

/-- A matrix stored row after row, at an index. -/
theorem rows2_at {N M : ℕ} {e : EltTy} (p : Fin N → (⟨2, ![1, M]⟩ : Shape).Idx → Elt Ideal e) (inb : ∀ r : Fin N, ∀ a, (![(r : ℕ), 0] : Fin 2 → ℕ) a + (⟨2, ![1, M]⟩ : Shape).size a ≤ (⟨2, ![N, M]⟩ : Shape).size a) (r : Fin N) (b : Fin M) :
    View.canon (rows (fun r : Fin N => (⟨Rect.unit (s := ⟨2, ![N, M]⟩) ![(r : ℕ), 0] (⟨2, ![1, M]⟩ : Shape).size (inb r), p r⟩ :
      View.Piece (Elt Ideal) ⟨2, ![N, M]⟩ e)) N le_rfl) (ix2 r b) = p r (ix2 0 b) := by
  have h := canon_rows (fun r : Fin N => (⟨Rect.unit (s := ⟨2, ![N, M]⟩) ![(r : ℕ), 0] (⟨2, ![1, M]⟩ : Shape).size (inb r), p r⟩ :
      View.Piece (Elt Ideal) ⟨2, ![N, M]⟩ e)) (fun y => p (y 0) (ix2 (0 : Fin 1) (y 1))) (fun r' (x : (⟨2, ![1, M]⟩ : Shape).Idx) => ?_) r (ix2 (0 : Fin 1) b)
  · exact (congrArg _ (emb_row2 r b (inb r)).symm).trans h
  · rw [eta2 x]
    exact (congrArg (fun y : (⟨2, ![N, M]⟩ : Shape).Idx => p (y 0) (ix2 (0 : Fin 1) (y 1))) (emb_row2 r' (x 1) (inb r'))).symm

theorem emb_row3 {N K M : ℕ} (r : Fin N) (k : Fin K) (b : Fin M) (inb : ∀ a, (![(r : ℕ), 0, 0] : Fin 3 → ℕ) a + (⟨3, ![1, K, M]⟩ : Shape).size a ≤ (⟨3, ![N, K, M]⟩ : Shape).size a) :
    (Rect.unit (s := ⟨3, ![N, K, M]⟩) ![(r : ℕ), 0, 0] (⟨3, ![1, K, M]⟩ : Shape).size inb).emb (ix3 (0 : Fin 1) k b) = ix3 r k b := by
  funext a
  have h := (Rect.idx_unit_val (s := ⟨3, ![N, K, M]⟩) ![(r : ℕ), 0, 0] (⟨3, ![1, K, M]⟩ : Shape).size inb (ix3 (0 : Fin 1) k b) a)
  refine Fin.ext (Eq.trans h ?_)
  clear h
  fin_cases a
  · exact Nat.add_zero _
  · exact Nat.zero_add _
  · exact Nat.zero_add _

/-- An array stored a matrix at a time, at an index. -/
theorem rows3_at {N K M : ℕ} {e : EltTy} (p : Fin N → (⟨3, ![1, K, M]⟩ : Shape).Idx → Elt Ideal e) (inb : ∀ r : Fin N, ∀ a, (![(r : ℕ), 0, 0] : Fin 3 → ℕ) a + (⟨3, ![1, K, M]⟩ : Shape).size a ≤ (⟨3, ![N, K, M]⟩ : Shape).size a) (r : Fin N) (k : Fin K) (b : Fin M) :
    View.canon (rows (fun r : Fin N => (⟨Rect.unit (s := ⟨3, ![N, K, M]⟩) ![(r : ℕ), 0, 0] (⟨3, ![1, K, M]⟩ : Shape).size (inb r), p r⟩ :
      View.Piece (Elt Ideal) ⟨3, ![N, K, M]⟩ e)) N le_rfl) (ix3 r k b) = p r (ix3 0 k b) := by
  have h := canon_rows (fun r : Fin N => (⟨Rect.unit (s := ⟨3, ![N, K, M]⟩) ![(r : ℕ), 0, 0] (⟨3, ![1, K, M]⟩ : Shape).size (inb r), p r⟩ :
      View.Piece (Elt Ideal) ⟨3, ![N, K, M]⟩ e)) (fun y => p (y 0) (ix3 (0 : Fin 1) (y 1) (y 2))) (fun r' (x : (⟨3, ![1, K, M]⟩ : Shape).Idx) => ?_) r (ix3 (0 : Fin 1) k b)
  · exact (congrArg _ (emb_row3 r k b (inb r)).symm).trans h
  · rw [eta3 x]
    exact (congrArg (fun y : (⟨3, ![N, K, M]⟩ : Shape).Idx => p (y 0) (ix3 (0 : Fin 1) (y 1) (y 2))) (emb_row3 r' (x 1) (x 2) (inb r'))).symm

theorem whole_idx {S : Shape} {off : Fin S.rank → ℕ} (inb) (h0 : ∀ a, off a = 0) (x : S.Idx) : (Rect.unit (s := S) off S.size inb).toLoadRect.idx x = x :=
  funext fun a => Fin.ext ((Rect.idx_unit_val off S.size inb x a).trans (by rw [h0, Nat.zero_add]))

theorem harm_at (k : Fin 16) (r : Fin 56) : harm m c t (ix2 k r) = harmRow (dirs m c t) k (ix2 0 r) := by
  rw [harm_eq, View.readCov_eq_canon']
  show View.canon _ _ = _
  rw [whole_idx (S := S16x56) _ zero2]
  exact rows2_at (N := 16) (M := 56) (e := .f32) (harmRow (dirs m c t)) inbSh k r

theorem N_eq : cfg0.N = 45 := by decide +kernel

theorem dirs_at (k : Fin 3) (r : Fin 56) (h : (t : ℕ) * 56 + r < 2500) : dirs m c t (ix3 0 k r) = (args m c).dirs (ix2 ⟨(t : ℕ) * 56 + r, h⟩ k) := by
  unfold dirs
  rw [load_whole (S := S1x3x56) (hs0_1 t) (iblk m c 1 t) _ zero3, iblk1 m c t k r (lt_of_lt_of_eq t.isLt N_eq)]
  exact V3 m c ⟨t, lt_of_lt_of_eq t.isLt N_eq⟩ k r h

theorem shared_ts : (shared m c t).ts = V m c main_v6 := by
  unfold shared
  exact (funext (load_whole (S := S32x1) (hs0_2 t) (iblk m c 2 t) _ zero2)).trans (iblk2 m c t)
theorem shared_w0 : (shared m c t).w0 = V m c main_v7 := by
  unfold shared
  exact (funext (load_whole (S := S64x32) (hs0_3 t) (iblk m c 3 t) _ zero2)).trans (iblk3 m c t)
theorem shared_t0 : (shared m c t).t0 = V m c main_v8 := by
  unfold shared
  exact (funext (load_whole (S := S64x1) (hs0_4 t) (iblk m c 4 t) _ zero2)).trans (iblk4 m c t)
theorem shared_w1 : (shared m c t).w1 = V m c main_v9 := by
  unfold shared
  exact (funext (load_whole (S := S16x64) (hs0_5 t) (iblk m c 5 t) _ zero2)).trans (iblk5 m c t)
theorem shared_t1 : (shared m c t).t1 = V m c main_v10 := by
  unfold shared
  exact (funext (load_whole (S := S16x1) (hs0_6 t) (iblk m c 6 t) _ zero2)).trans (iblk6 m c t)
theorem shared_w2 : (shared m c t).w2 = V m c main_v11 := by
  unfold shared
  exact (funext (load_whole (S := S64x32) (hs0_7 t) (iblk m c 7 t) _ zero2)).trans (iblk7 m c t)
theorem shared_t2 : (shared m c t).t2 = V m c main_v12 := by
  unfold shared
  exact (funext (load_whole (S := S64x1) (hs0_8 t) (iblk m c 8 t) _ zero2)).trans (iblk8 m c t)
theorem shared_w3 : (shared m c t).w3 = V m c main_v13 := by
  unfold shared
  exact (funext (load_whole (S := S64x64) (hs0_9 t) (iblk m c 9 t) _ zero2)).trans (iblk9 m c t)
theorem shared_t3 : (shared m c t).t3 = V m c main_v14 := by
  unfold shared
  exact (funext (load_whole (S := S64x1) (hs0_10 t) (iblk m c 10 t) _ zero2)).trans (iblk10 m c t)
theorem shared_w4 : (shared m c t).w4 = V m c main_v15 := by
  unfold shared
  exact (funext (load_whole (S := S3x64) (hs0_11 t) (iblk m c 11 t) _ zero2)).trans (iblk11 m c t)
theorem shared_t4 : (shared m c t).t4 = V m c main_v16 := by
  unfold shared
  exact (funext (load_whole (S := S3x1) (hs0_12 t) (iblk m c 12 t) _ zero2)).trans (iblk12 m c t)

theorem slice_at (X : Vec Ideal S16x56 .f32) (r : Fin 56) (hr) (k : Fin 16) : extractStridedSlice S16x1 ![0, (r : ℕ)] X hr (ix2 k (0 : Fin 1)) = X (ix2 k r) := by
  pointwise

/-- Ray `r` of block `t` is the network at ray `t * 56 + r`, for a ray there is. -/
theorem ray_is (r : Fin 56) (b : Fin 128) (h : (t : ℕ) * 56 + r < 2500) : (ray m c t r).Is b ((args m c).net ⟨(t : ℕ) * 56 + r, h⟩ b) where
  f k := by
    rw [feat_at, show (ray m c t r).ts = V m c main_v6 from shared_ts m c t, iblk0 m c t r k b (by omega), V0, V6]
    rfl
  sh k := by
    refine (slice_at (harm m c t) r (slices16 r) k).trans ?_
    rw [harm_at, harmRow_at, dirs_at m c t 0 r h, dirs_at m c t 1 r h, dirs_at m c t 2 r h]
    rfl
  w0 i j := (congrFun (shared_w0 m c t) _).trans (V7 m c i j)
  t0 j := (congrFun (shared_t0 m c t) _).trans (V8 m c j)
  w1 i j := (congrFun (shared_w1 m c t) _).trans (V9 m c i j)
  t1 j := (congrFun (shared_t1 m c t) _).trans (V10 m c j)
  w2 i j := (congrFun (shared_w2 m c t) _).trans (V11 m c i j)
  t2 j := (congrFun (shared_t2 m c t) _).trans (V12 m c j)
  w3 i j := (congrFun (shared_w3 m c t) _).trans (V13 m c i j)
  t3 j := (congrFun (shared_t3 m c t) _).trans (V14 m c j)
  w4 i j := (congrFun (shared_w4 m c t) _).trans (V15 m c i j)
  t4 j := (congrFun (shared_t4 m c t) _).trans (V16 m c j)

end Cert.Proof.Ker
end
-- ==== Proof.KerRows5.lean ====
/- The pieces of the density and colour scratch arrays and of the results stored from them. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

/-- The density rows' pieces, ray after ray. -/
def sigRows : List (View.Piece (Elt F) S56x128 .f32) :=
  rows (fun r => ⟨Rect.unit (s := S56x128) ![(r : ℕ), 0] S1x128.size (inb1 r), row (ray m c t r).sig⟩) 56 le_rfl

/-- The colour rows' pieces, ray after ray and colour after colour. -/
def rgbRows : List (View.Piece (Elt F) S3x56x128 .f32) :=
  rows3 (fun k r => ⟨Rect.unit (s := S3x56x128) ![(k : ℕ), (r : ℕ), 0] S1x1x128.size (inb3 k r), row3 ((ray m c t r).ch k (slices3 k))⟩) 56 le_rfl

theorem sigRows_eq : kernelRun0_A.sl.HS1_56 c (ms0_0 t) (hs0_0 t) (ms0_2 t) (hs0_2 t) (ms0_3 t) (hs0_3 t) (ms0_4 t) (hs0_4 t) (ms0_5 t) (hs0_5 t) (ms0_6 t) (hs0_6 t) (iblk m c 0 t) (iblk m c 2 t) (iblk m c 3 t) (iblk m c 4 t) (iblk m c 5 t) (iblk m c 6 t) = sigRows m c t := by
  sl_kernel_rfl

theorem rgbRows_eq : kernelRun0_A.sl.HS2_168 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = rgbRows m c t := by
  sl_kernel_rfl

theorem rows13_eq : (run m c t).1 = [⟨Rect.unit (s := S56x128) ![0, 0] ![56, 128] inb_S56x128_S56x128_0_0,
    k0_pay2 (scM0_1.view.readCov (sigRows m c t) (Rect.unit (s := S56x128) ![0, 0] ![56, 128] inb_S56x128_S56x128_0_0).toLoadRect)⟩] := by
  rw [← sigRows_eq]
  sl_kernel_rfl

theorem rows14_eq : (run m c t).2.1 = [⟨Rect.unit (s := S3x56x128) ![0, 0, 0] ![3, 56, 128] inb_S3x56x128_S3x56x128_0_0_0,
    k0_pay3 (scM0_2.view.readCov (rgbRows m c t) (Rect.unit (s := S3x56x128) ![0, 0, 0] ![3, 56, 128] inb_S3x56x128_S3x56x128_0_0_0).toLoadRect)⟩] := by
  rw [← rgbRows_eq]
  sl_kernel_rfl

end Cert.Proof.Ker
end
-- ==== Proof.KerTwo.lean ====
/- The kernel's density and colour arrays: the network's, at its arguments. -/
module

public import proofs.«01_k».proof.Proof.KerIs
public import proofs.«01_k».proof.Proof.KerRows5

@[expose] public section

set_option maxRecDepth 16384

noncomputable section

namespace Cert.Proof.Ker

open Idealize.ShloMosaic Idealize.ShloMosaic.TcCoe Idealize.ShloMosaic.Tactic Cert.KernelIdeal Cert.KernelIdeal.Gen
open Idealize.ShloMosaic.Pipeline (Dat)

variable (m : (ℓ : Loc nD τ sig) → Buf (Elt Ideal) ℓ) (c : Dev nD) (t : Fin cfg0.N)

theorem row_at (s : FVec Ideal S1x128 .f32) (b : Fin 128) : row s (ix2 (0 : Fin 1) b) = s (ix2 0 b) := by
  unfold row
  pointwise
theorem row3_at (s : FVec Ideal S1x128 .f32) (b : Fin 128) : row3 s (ix3 (0 : Fin 1) (0 : Fin 1) b) = s (ix2 0 b) := by
  unfold row3
  pointwise

/-- One piece over the whole buffer is what the buffer holds. -/
theorem canon_whole {S : Shape} {e : EltTy} {off : Fin S.rank → ℕ} (inb) (h0 : ∀ a, off a = 0) (w : S.Idx → Elt Ideal e) (x : S.Idx) :
    View.canon [(⟨Rect.unit (s := S) off S.size inb, w⟩ : View.Piece (Elt Ideal) S e)] x = w x := by
  have he : ∀ y, (Rect.unit (s := S) off S.size inb).emb y = y := whole_idx inb h0
  refine View.canon_apply_of_pieces w _ (fun q hq y => ?_) x ⟨_, List.mem_singleton.2 rfl, ?_⟩
  · obtain rfl := List.mem_singleton.1 hq
    exact congrArg w (he y).symm
  · have := (Rect.unit (s := S) off S.size inb).idx_mem x
    rwa [show (Rect.unit (s := S) off S.size inb).idx x = x from he x] at this

theorem mem_rows3 {α : Type} (p : Fin 3 → Fin 56 → α) (k : Fin 3) (r : Fin 56) : ∀ (n : ℕ) (h : n ≤ 56), (r : ℕ) < n → p k r ∈ rows3 p n h
  | 0, _, hr => absurd hr (Nat.not_lt_zero _)
  | n + 1, h, hr => by
    rcases Nat.lt_succ_iff_lt_or_eq.mp hr with hr | rfl
    · exact .tail _ (.tail _ (.tail _ (mem_rows3 p k r n _ hr)))
    · fin_cases k
      · exact .tail _ (.tail _ (.head _))
      · exact .tail _ (.head _)
      · exact .head _

theorem of_mem_rows3 {α : Type} (p : Fin 3 → Fin 56 → α) (x : α) : ∀ (n : ℕ) (h : n ≤ 56), x ∈ rows3 p n h → ∃ k r, p k r = x
  | 0, _, hx => by cases hx
  | n + 1, h, hx => by
    rcases hx with _ | ⟨_, _ | ⟨_, _ | ⟨_, hx⟩⟩⟩
    · exact ⟨2, _, rfl⟩
    · exact ⟨1, _, rfl⟩
    · exact ⟨0, _, rfl⟩
    · exact of_mem_rows3 p x n _ hx

theorem emb_rgb (k : Fin 3) (r : Fin 56) (b : Fin 128) :
    (Rect.unit (s := S3x56x128) ![(k : ℕ), (r : ℕ), 0] S1x1x128.size (inb3 k r)).emb (ix3 (0 : Fin 1) (0 : Fin 1) b) = ix3 k r b := by
  funext a
  have h := Rect.idx_unit_val (s := S3x56x128) ![(k : ℕ), (r : ℕ), 0] S1x1x128.size (inb3 k r) (ix3 (0 : Fin 1) (0 : Fin 1) b) a
  refine Fin.ext (Eq.trans h ?_)
  clear h
  fin_cases a
  · exact Nat.add_zero _
  · exact Nat.add_zero _
  · exact Nat.zero_add _

theorem pieces14 (k : Fin 3) (r : Fin 56) (b : Fin 128) :
    View.canon (Val := Elt Ideal) (rgbRows m c t) (ix3 k r b) = (ray m c t r).ch k (slices3 k) (ix2 0 b) := by
  let G : S3x56x128.Idx → Elt Ideal .f32 := fun y => (ray m c t (y 1)).ch (y 0 : Fin 3) (slices3 (y 0)) (ix2 (0 : Fin 1) (y 2))
  refine View.canon_apply_of_pieces G _ (fun q hq => ?_) (ix3 k r b) ⟨_, mem_rows3 _ k r 56 le_rfl r.2, ?_⟩
  · obtain ⟨k', r', rfl⟩ := of_mem_rows3 _ q 56 le_rfl hq
    intro (x : S1x1x128.Idx)
    idx_vars x
    obtain rfl : x0 = 0 := Subsingleton.elim _ _
    obtain rfl : x1 = 0 := Subsingleton.elim _ _
    exact (row3_at _ x2).trans (congrArg G (emb_rgb k' r' x2)).symm
  · have := (Rect.unit (s := S3x56x128) ![(k : ℕ), (r : ℕ), 0] S1x1x128.size (inb3 k r)).idx_mem (ix3 (0 : Fin 1) (0 : Fin 1) b)
    rwa [show (Rect.unit (s := S3x56x128) ![(k : ℕ), (r : ℕ), 0] S1x1x128.size (inb3 k r)).idx (ix3 (0 : Fin 1) (0 : Fin 1) b) = ix3 k r b from emb_rgb k r b] at this

theorem pieces13 (r : Fin 56) (b : Fin 128) : View.canon (Val := Elt Ideal) (sigRows m c t) (ix2 r b) = (ray m c t r).sig (ix2 0 b) :=
  (rows2_at (N := 56) (M := 128) (e := .f32) (fun r => row (ray m c t r).sig) inb1 r b).trans (row_at _ b)

theorem canon13 : (dats m 0 c).after 13 t = View.canon (Val := Elt Ideal) (run m c t).1 := by
  have h : (dats m 0 c).after 13 t = VO0_13.read (Elt Ideal) (VO0_13.writes (Elt Ideal) VO0_13.junk (run m c t).1) := by
    sl_kernel_rfl
  exact h.trans (View.read_writes_junk_eq_canon (Val := Elt Ideal) VO0_13 (run m c t).1)

/-- The density array's result from its scratch array. -/
theorem pay2_at (L : List (View.Piece (Elt Ideal) S56x128 .f32)) (inb) (r : Fin 56) (b : Fin 128) :
    k0_pay2 (F := Ideal) (scM0_1.view.readCov L (Rect.unit (s := S56x128) ![0, 0] ![56, 128] inb).toLoadRect) (ix2 r b)
      = Ideal.exp (View.canon (Val := Elt Ideal) L (ix2 r b) : EReal) := by
  have h := whole_idx (S := S56x128) inb zero2 (ix2 r b)
  have e : scM0_1.view.readCov L (Rect.unit (s := S56x128) ![0, 0] ![56, 128] inb).toLoadRect (ix2 r b) = View.canon (Val := Elt Ideal) L (ix2 r b) := by
    rw [View.readCov_eq_canon']
    exact congrArg (View.canon (Val := Elt Ideal) L) h
  rw [← e]
  generalize scM0_1.view.readCov L (Rect.unit (s := S56x128) ![0, 0] ![56, 128] inb).toLoadRect = X
  pointwise [k0_pay2]

/-- The colour array's result from its scratch array. -/
theorem pay3_at (L : List (View.Piece (Elt Ideal) S3x56x128 .f32)) (inb) (k : Fin 3) (r : Fin 56) (b : Fin 128) :
    k0_pay3 (F := Ideal) (scM0_2.view.readCov L (Rect.unit (s := S3x56x128) ![0, 0, 0] ![3, 56, 128] inb).toLoadRect) (ix3 k r b)
      = Ideal.logistic (View.canon (Val := Elt Ideal) L (ix3 k r b) : EReal) := by
  have h := whole_idx (S := S3x56x128) inb zero3 (ix3 k r b)
  have e : scM0_2.view.readCov L (Rect.unit (s := S3x56x128) ![0, 0, 0] ![3, 56, 128] inb).toLoadRect (ix3 k r b) = View.canon (Val := Elt Ideal) L (ix3 k r b) := by
    rw [View.readCov_eq_canon']
    exact congrArg (View.canon (Val := Elt Ideal) L) h
  rw [← e]
  generalize scM0_2.view.readCov L (Rect.unit (s := S3x56x128) ![0, 0, 0] ![3, 56, 128] inb).toLoadRect = X
  pointwise [k0_pay3]

theorem after13 (r : Fin 56) (b : Fin 128) (h : (t : ℕ) * 56 + r < 2500) : (dats m 0 c).after 13 t (ix2 r b) = Ideal.exp (((args m c).net ⟨(t : ℕ) * 56 + r, h⟩ b).h 0) := by
  rw [canon13, rows13_eq]
  refine (canon_whole (S := S56x128) (e := .bf16) _ zero2 _ (ix2 r b)).trans ?_
  exact (pay2_at (sigRows m c t) _ r b).trans (congrArg Ideal.exp ((pieces13 m c t r b).trans (Ray.sig_at (ray_is m c t r b h))))

theorem final13 : (dats m 0 c).arrAt 13 cfg0.N = (args m c).sigma := by
  refine (dats m 0 c).arrAt_eq_of_covers 13 _ (by decide +kernel) fun t hf y => ?_
  have e0 : ((((cfg0.win 13).blk t).view.emb y 0 : Fin 2500) : ℕ) = (t : ℕ) * 56 + (y 0 : ℕ) := by
    blk_simp [idx t]
  have h := (((cfg0.win 13).blk t).view.emb y 0 : Fin 2500).2
  rw [e0] at h
  have e : ((cfg0.win 13).blk t).view.emb y = ix2 (⟨(t : ℕ) * 56 + (y 0 : ℕ), h⟩ : Fin 2500) ((cfg0.win 13).xinj (cfg0.grid.coords t) y 1 : Fin 128) := by
    blk_ext [idx t]
  rw [e]
  refine Eq.trans ?_ (after13 m c t ((cfg0.win 13).xinj (cfg0.grid.coords t) y 0) ((cfg0.win 13).xinj (cfg0.grid.coords t) y 1) h)
  exact congrArg ((dats m 0 c).after 13 t) (funext fun a => by fin_cases a <;> rfl)

theorem canon14 : (dats m 0 c).after 14 t = View.canon (Val := Elt Ideal) (run m c t).2.1 := by
  have h : (dats m 0 c).after 14 t = VO0_14.read (Elt Ideal) (VO0_14.writes (Elt Ideal) VO0_14.junk (run m c t).2.1) := by
    sl_kernel_rfl
  exact h.trans (View.read_writes_junk_eq_canon (Val := Elt Ideal) VO0_14 (run m c t).2.1)

theorem after14 (k : Fin 3) (r : Fin 56) (b : Fin 128) (h : (t : ℕ) * 56 + r < 2500) : (dats m 0 c).after 14 t (ix3 k r b) = Ideal.logistic (((args m c).net ⟨(t : ℕ) * 56 + r, h⟩ b).o k) := by
  rw [canon14, rows14_eq]
  refine (canon_whole (S := S3x56x128) (e := .bf16) _ zero3 _ (ix3 k r b)).trans ?_
  exact (pay3_at (rgbRows m c t) _ k r b).trans (congrArg Ideal.logistic ((pieces14 m c t k r b).trans (Ray.ch_at (ray_is m c t r b h) k (slices3 k) k.2)))

theorem final14 : (dats m 0 c).arrAt 14 cfg0.N = (args m c).rgb := by
  refine (dats m 0 c).arrAt_eq_of_covers 14 _ (by decide +kernel) fun t hf y => ?_
  have e0 : ((((cfg0.win 14).blk t).view.emb y 1 : Fin 2500) : ℕ) = (t : ℕ) * 56 + (y 1 : ℕ) := by
    blk_simp [idx t]
  have h := (((cfg0.win 14).blk t).view.emb y 1 : Fin 2500).2
  rw [e0] at h
  have e : ((cfg0.win 14).blk t).view.emb y = ix3 ((cfg0.win 14).xinj (cfg0.grid.coords t) y 0 : Fin 3) (⟨(t : ℕ) * 56 + (y 1 : ℕ), h⟩ : Fin 2500) ((cfg0.win 14).xinj (cfg0.grid.coords t) y 2 : Fin 128) := by
    blk_ext [idx t]
  rw [e]
  refine Eq.trans ?_ (after14 m c t ((cfg0.win 14).xinj (cfg0.grid.coords t) y 0) ((cfg0.win 14).xinj (cfg0.grid.coords t) y 1) ((cfg0.win 14).xinj (cfg0.grid.coords t) y 2) h)
  exact congrArg ((dats m 0 c).after 14 t) (funext fun a => by fin_cases a <;> rfl)

end Cert.Proof.Ker
end
-- ==== Proof.KerRows0.lean ====
/- The pieces of layer 0's codes and scales, ray after ray. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

theorem rows15_eq : (run m c t).2.2.1 = rows (fun r => ⟨Rect.unit (s := S56x32x128) ![(r : ℕ), 0, 0] S1x32x128.size (inb32 r), c32 (ray m c t r).q0⟩) 56 le_rfl := by
  sl_kernel_rfl

theorem rows16_eq : (run m c t).2.2.2.1 = rows (fun r => ⟨Rect.unit (s := S56x128) ![(r : ℕ), 0] S1x128.size (inb1 r), pow (ray m c t r).e0⟩) 56 le_rfl := by
  sl_kernel_rfl

end Cert.Proof.Ker
end
-- ==== Proof.KerRows1.lean ====
/- The pieces of layer 1's codes and scales, ray after ray. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

theorem rows17_eq : (run m c t).2.2.2.2.1 = rows (fun r => ⟨Rect.unit (s := S56x64x128) ![(r : ℕ), 0, 0] S1x64x128.size (inb64 r), c64 (ray m c t r).q1⟩) 56 le_rfl := by
  sl_kernel_rfl

theorem rows18_eq : (run m c t).2.2.2.2.2.1 = rows (fun r => ⟨Rect.unit (s := S56x128) ![(r : ℕ), 0] S1x128.size (inb1 r), pow (ray m c t r).e1⟩) 56 le_rfl := by
  sl_kernel_rfl

end Cert.Proof.Ker
end
-- ==== Proof.KerRows2.lean ====
/- The pieces of layer 2's codes and scales, ray after ray. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

theorem rows19_eq : (run m c t).2.2.2.2.2.2.1 = rows (fun r => ⟨Rect.unit (s := S56x32x128) ![(r : ℕ), 0, 0] S1x32x128.size (inb32 r), c32 (ray m c t r).q2⟩) 56 le_rfl := by
  sl_kernel_rfl

theorem rows20_eq : (run m c t).2.2.2.2.2.2.2.1 = rows (fun r => ⟨Rect.unit (s := S56x128) ![(r : ℕ), 0] S1x128.size (inb1 r), pow (ray m c t r).e2⟩) 56 le_rfl := by
  sl_kernel_rfl

end Cert.Proof.Ker
end
-- ==== Proof.KerRows3.lean ====
/- The pieces of layer 3's codes and scales, ray after ray. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

theorem rows21_eq : (run m c t).2.2.2.2.2.2.2.2.1 = rows (fun r => ⟨Rect.unit (s := S56x64x128) ![(r : ℕ), 0, 0] S1x64x128.size (inb64 r), c64 (ray m c t r).q3⟩) 56 le_rfl := by
  sl_kernel_rfl

theorem rows22_eq : (run m c t).2.2.2.2.2.2.2.2.2.1 = rows (fun r => ⟨Rect.unit (s := S56x128) ![(r : ℕ), 0] S1x128.size (inb1 r), pow (ray m c t r).e3⟩) 56 le_rfl := by
  sl_kernel_rfl

end Cert.Proof.Ker
end
-- ==== Proof.KerRows4.lean ====
/- The pieces of layer 4's codes and scales, ray after ray. -/
module

public import proofs.«01_k».proof.Proof.KerBody

@[expose] public section

set_option maxRecDepth 16384

noncomputable section

namespace Cert.Proof.Ker

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ) (c : Dev nD) (t : Fin cfg0.N)

theorem rows23_eq : (run m c t).2.2.2.2.2.2.2.2.2.2.1 = rows (fun r => ⟨Rect.unit (s := S56x64x128) ![(r : ℕ), 0, 0] S1x64x128.size (inb64 r), c64 (ray m c t r).q4⟩) 56 le_rfl := by
  sl_kernel_rfl

theorem rows24_eq : (run m c t).2.2.2.2.2.2.2.2.2.2.2.1 = rows (fun r => ⟨Rect.unit (s := S56x128) ![(r : ℕ), 0] S1x128.size (inb1 r), pow (ray m c t r).e4⟩) 56 le_rfl := by
  sl_kernel_rfl

end Cert.Proof.Ker
end
-- ==== Proof.KerFinal.lean ====
/- The kernel's code and scale arrays: the network's, at its arguments. -/
module

public import proofs.«01_k».proof.Proof.KerIs
public import proofs.«01_k».proof.Proof.KerRows0
public import proofs.«01_k».proof.Proof.KerRows1
public import proofs.«01_k».proof.Proof.KerRows2
public import proofs.«01_k».proof.Proof.KerRows3
public import proofs.«01_k».proof.Proof.KerRows4

@[expose] public section

set_option maxRecDepth 16384

noncomputable section

namespace Cert.Proof.Ker

open Idealize.ShloMosaic Idealize.ShloMosaic.TcCoe Idealize.ShloMosaic.Tactic Cert.KernelIdeal Cert.KernelIdeal.Gen
open Idealize.ShloMosaic.Pipeline (Dat)

variable (m : (ℓ : Loc nD τ sig) → Buf (Elt Ideal) ℓ) (c : Dev nD) (t : Fin cfg0.N)

theorem c32_at (q : FVec Ideal S32x128 .fp8e4m3) (k : Fin 32) (b : Fin 128) : c32 q (ix3 (0 : Fin 1) k b) = q (ix2 k b) := by
  unfold c32
  pointwise
theorem c64_at (q : FVec Ideal S64x128 .fp8e4m3) (k : Fin 64) (b : Fin 128) : c64 q (ix3 (0 : Fin 1) k b) = q (ix2 k b) := by
  unfold c64
  pointwise
theorem canon15 : (dats m 0 c).after 15 t = View.canon (Val := Elt Ideal) (run m c t).2.2.1 := by
  have h : (dats m 0 c).after 15 t = VO0_15.read (Elt Ideal) (VO0_15.writes (Elt Ideal) VO0_15.junk (run m c t).2.2.1) := by
    sl_kernel_rfl
  exact h.trans (View.read_writes_junk_eq_canon (Val := Elt Ideal) VO0_15 (run m c t).2.2.1)

theorem after15 (r : Fin 56) (k : Fin 32) (b : Fin 128) (h : (t : ℕ) * 56 + r < 2500) :
    (dats m 0 c).after 15 t (ix3 r k b) = Spec.code ((args m c).net ⟨(t : ℕ) * 56 + r, h⟩ b).f k := by
  rw [canon15, rows15_eq]
  exact (rows3_at (N := 56) (K := 32) (M := 128) (e := .fp8e4m3) (fun r => c32 (ray m c t r).q0) inb32 r k b).trans
    ((c32_at _ k b).trans (Ray.q0_at (ray_is m c t r b h) k))

theorem final15 : (dats m 0 c).arrAt 15 cfg0.N = (args m c).codes Spec.Net.f := by
  refine (dats m 0 c).arrAt_eq_of_covers 15 _ (by decide +kernel) fun t hf y => ?_
  have e0 : ((((cfg0.win 15).blk t).view.emb y 0 : Fin 2500) : ℕ) = (t : ℕ) * 56 + (y 0 : ℕ) := by
    blk_simp [idx t]
  have h := (((cfg0.win 15).blk t).view.emb y 0 : Fin 2500).2
  rw [e0] at h
  have e : ((cfg0.win 15).blk t).view.emb y = ix3 (⟨(t : ℕ) * 56 + (y 0 : ℕ), h⟩ : Fin 2500) ((cfg0.win 15).xinj (cfg0.grid.coords t) y 1 : Fin 32) ((cfg0.win 15).xinj (cfg0.grid.coords t) y 2 : Fin 128) := by
    blk_ext [idx t]
  rw [e]
  refine Eq.trans ?_ (after15 m c t ((cfg0.win 15).xinj (cfg0.grid.coords t) y 0) ((cfg0.win 15).xinj (cfg0.grid.coords t) y 1) ((cfg0.win 15).xinj (cfg0.grid.coords t) y 2) h)
  exact congrArg ((dats m 0 c).after 15 t) (funext fun a => by fin_cases a <;> rfl)

theorem canon16 : (dats m 0 c).after 16 t = View.canon (Val := Elt Ideal) (run m c t).2.2.2.1 := by
  have h : (dats m 0 c).after 16 t = VO0_16.read (Elt Ideal) (VO0_16.writes (Elt Ideal) VO0_16.junk (run m c t).2.2.2.1) := by
    sl_kernel_rfl
  exact h.trans (View.read_writes_junk_eq_canon (Val := Elt Ideal) VO0_16 (run m c t).2.2.2.1)

theorem after16 (r : Fin 56) (b : Fin 128) (h : (t : ℕ) * 56 + r < 2500) : (dats m 0 c).after 16 t (ix2 r b) = Spec.scale ((args m c).net ⟨(t : ℕ) * 56 + r, h⟩ b).f := by
  rw [canon16, rows16_eq]
  exact (rows2_at (N := 56) (M := 128) (e := .f32) (fun r => pow (F := Ideal) (ray m c t r).e0) inb1 r b).trans
    (Ray.s0_at (ray_is m c t r b h))

theorem final16 : (dats m 0 c).arrAt 16 cfg0.N = (args m c).scales Spec.Net.f := by
  refine (dats m 0 c).arrAt_eq_of_covers 16 _ (by decide +kernel) fun t hf y => ?_
  have e0 : ((((cfg0.win 16).blk t).view.emb y 0 : Fin 2500) : ℕ) = (t : ℕ) * 56 + (y 0 : ℕ) := by
    blk_simp [idx t]
  have h := (((cfg0.win 16).blk t).view.emb y 0 : Fin 2500).2
  rw [e0] at h
  have e : ((cfg0.win 16).blk t).view.emb y = ix2 (⟨(t : ℕ) * 56 + (y 0 : ℕ), h⟩ : Fin 2500) ((cfg0.win 16).xinj (cfg0.grid.coords t) y 1 : Fin 128) := by
    blk_ext [idx t]
  rw [e]
  refine Eq.trans ?_ (after16 m c t ((cfg0.win 16).xinj (cfg0.grid.coords t) y 0) ((cfg0.win 16).xinj (cfg0.grid.coords t) y 1) h)
  exact congrArg ((dats m 0 c).after 16 t) (funext fun a => by fin_cases a <;> rfl)

theorem canon17 : (dats m 0 c).after 17 t = View.canon (Val := Elt Ideal) (run m c t).2.2.2.2.1 := by
  have h : (dats m 0 c).after 17 t = VO0_17.read (Elt Ideal) (VO0_17.writes (Elt Ideal) VO0_17.junk (run m c t).2.2.2.2.1) := by
    sl_kernel_rfl
  exact h.trans (View.read_writes_junk_eq_canon (Val := Elt Ideal) VO0_17 (run m c t).2.2.2.2.1)

theorem after17 (r : Fin 56) (k : Fin 64) (b : Fin 128) (h : (t : ℕ) * 56 + r < 2500) :
    (dats m 0 c).after 17 t (ix3 r k b) = Spec.code ((args m c).net ⟨(t : ℕ) * 56 + r, h⟩ b).h1 k := by
  rw [canon17, rows17_eq]
  exact (rows3_at (N := 56) (K := 64) (M := 128) (e := .fp8e4m3) (fun r => c64 (ray m c t r).q1) inb64 r k b).trans
    ((c64_at _ k b).trans (Ray.q1_at (ray_is m c t r b h) k))

theorem final17 : (dats m 0 c).arrAt 17 cfg0.N = (args m c).codes Spec.Net.h1 := by
  refine (dats m 0 c).arrAt_eq_of_covers 17 _ (by decide +kernel) fun t hf y => ?_
  have e0 : ((((cfg0.win 17).blk t).view.emb y 0 : Fin 2500) : ℕ) = (t : ℕ) * 56 + (y 0 : ℕ) := by
    blk_simp [idx t]
  have h := (((cfg0.win 17).blk t).view.emb y 0 : Fin 2500).2
  rw [e0] at h
  have e : ((cfg0.win 17).blk t).view.emb y = ix3 (⟨(t : ℕ) * 56 + (y 0 : ℕ), h⟩ : Fin 2500) ((cfg0.win 17).xinj (cfg0.grid.coords t) y 1 : Fin 64) ((cfg0.win 17).xinj (cfg0.grid.coords t) y 2 : Fin 128) := by
    blk_ext [idx t]
  rw [e]
  refine Eq.trans ?_ (after17 m c t ((cfg0.win 17).xinj (cfg0.grid.coords t) y 0) ((cfg0.win 17).xinj (cfg0.grid.coords t) y 1) ((cfg0.win 17).xinj (cfg0.grid.coords t) y 2) h)
  exact congrArg ((dats m 0 c).after 17 t) (funext fun a => by fin_cases a <;> rfl)

theorem canon18 : (dats m 0 c).after 18 t = View.canon (Val := Elt Ideal) (run m c t).2.2.2.2.2.1 := by
  have h : (dats m 0 c).after 18 t = VO0_18.read (Elt Ideal) (VO0_18.writes (Elt Ideal) VO0_18.junk (run m c t).2.2.2.2.2.1) := by
    sl_kernel_rfl
  exact h.trans (View.read_writes_junk_eq_canon (Val := Elt Ideal) VO0_18 (run m c t).2.2.2.2.2.1)

theorem after18 (r : Fin 56) (b : Fin 128) (h : (t : ℕ) * 56 + r < 2500) : (dats m 0 c).after 18 t (ix2 r b) = Spec.scale ((args m c).net ⟨(t : ℕ) * 56 + r, h⟩ b).h1 := by
  rw [canon18, rows18_eq]
  exact (rows2_at (N := 56) (M := 128) (e := .f32) (fun r => pow (F := Ideal) (ray m c t r).e1) inb1 r b).trans
    (Ray.s1_at (ray_is m c t r b h))

theorem final18 : (dats m 0 c).arrAt 18 cfg0.N = (args m c).scales Spec.Net.h1 := by
  refine (dats m 0 c).arrAt_eq_of_covers 18 _ (by decide +kernel) fun t hf y => ?_
  have e0 : ((((cfg0.win 18).blk t).view.emb y 0 : Fin 2500) : ℕ) = (t : ℕ) * 56 + (y 0 : ℕ) := by
    blk_simp [idx t]
  have h := (((cfg0.win 18).blk t).view.emb y 0 : Fin 2500).2
  rw [e0] at h
  have e : ((cfg0.win 18).blk t).view.emb y = ix2 (⟨(t : ℕ) * 56 + (y 0 : ℕ), h⟩ : Fin 2500) ((cfg0.win 18).xinj (cfg0.grid.coords t) y 1 : Fin 128) := by
    blk_ext [idx t]
  rw [e]
  refine Eq.trans ?_ (after18 m c t ((cfg0.win 18).xinj (cfg0.grid.coords t) y 0) ((cfg0.win 18).xinj (cfg0.grid.coords t) y 1) h)
  exact congrArg ((dats m 0 c).after 18 t) (funext fun a => by fin_cases a <;> rfl)

theorem canon19 : (dats m 0 c).after 19 t = View.canon (Val := Elt Ideal) (run m c t).2.2.2.2.2.2.1 := by
  have h : (dats m 0 c).after 19 t = VO0_19.read (Elt Ideal) (VO0_19.writes (Elt Ideal) VO0_19.junk (run m c t).2.2.2.2.2.2.1) := by
    sl_kernel_rfl
  exact h.trans (View.read_writes_junk_eq_canon (Val := Elt Ideal) VO0_19 (run m c t).2.2.2.2.2.2.1)

theorem after19 (r : Fin 56) (k : Fin 32) (b : Fin 128) (h : (t : ℕ) * 56 + r < 2500) :
    (dats m 0 c).after 19 t (ix3 r k b) = Spec.code ((args m c).net ⟨(t : ℕ) * 56 + r, h⟩ b).cin k := by
  rw [canon19, rows19_eq]
  exact (rows3_at (N := 56) (K := 32) (M := 128) (e := .fp8e4m3) (fun r => c32 (ray m c t r).q2) inb32 r k b).trans
    ((c32_at _ k b).trans (Ray.q2_at (ray_is m c t r b h) k))

theorem final19 : (dats m 0 c).arrAt 19 cfg0.N = (args m c).codes Spec.Net.cin := by
  refine (dats m 0 c).arrAt_eq_of_covers 19 _ (by decide +kernel) fun t hf y => ?_
  have e0 : ((((cfg0.win 19).blk t).view.emb y 0 : Fin 2500) : ℕ) = (t : ℕ) * 56 + (y 0 : ℕ) := by
    blk_simp [idx t]
  have h := (((cfg0.win 19).blk t).view.emb y 0 : Fin 2500).2
  rw [e0] at h
  have e : ((cfg0.win 19).blk t).view.emb y = ix3 (⟨(t : ℕ) * 56 + (y 0 : ℕ), h⟩ : Fin 2500) ((cfg0.win 19).xinj (cfg0.grid.coords t) y 1 : Fin 32) ((cfg0.win 19).xinj (cfg0.grid.coords t) y 2 : Fin 128) := by
    blk_ext [idx t]
  rw [e]
  refine Eq.trans ?_ (after19 m c t ((cfg0.win 19).xinj (cfg0.grid.coords t) y 0) ((cfg0.win 19).xinj (cfg0.grid.coords t) y 1) ((cfg0.win 19).xinj (cfg0.grid.coords t) y 2) h)
  exact congrArg ((dats m 0 c).after 19 t) (funext fun a => by fin_cases a <;> rfl)

theorem canon20 : (dats m 0 c).after 20 t = View.canon (Val := Elt Ideal) (run m c t).2.2.2.2.2.2.2.1 := by
  have h : (dats m 0 c).after 20 t = VO0_20.read (Elt Ideal) (VO0_20.writes (Elt Ideal) VO0_20.junk (run m c t).2.2.2.2.2.2.2.1) := by
    sl_kernel_rfl
  exact h.trans (View.read_writes_junk_eq_canon (Val := Elt Ideal) VO0_20 (run m c t).2.2.2.2.2.2.2.1)

theorem after20 (r : Fin 56) (b : Fin 128) (h : (t : ℕ) * 56 + r < 2500) : (dats m 0 c).after 20 t (ix2 r b) = Spec.scale ((args m c).net ⟨(t : ℕ) * 56 + r, h⟩ b).cin := by
  rw [canon20, rows20_eq]
  exact (rows2_at (N := 56) (M := 128) (e := .f32) (fun r => pow (F := Ideal) (ray m c t r).e2) inb1 r b).trans
    (Ray.s2_at (ray_is m c t r b h))

theorem final20 : (dats m 0 c).arrAt 20 cfg0.N = (args m c).scales Spec.Net.cin := by
  refine (dats m 0 c).arrAt_eq_of_covers 20 _ (by decide +kernel) fun t hf y => ?_
  have e0 : ((((cfg0.win 20).blk t).view.emb y 0 : Fin 2500) : ℕ) = (t : ℕ) * 56 + (y 0 : ℕ) := by
    blk_simp [idx t]
  have h := (((cfg0.win 20).blk t).view.emb y 0 : Fin 2500).2
  rw [e0] at h
  have e : ((cfg0.win 20).blk t).view.emb y = ix2 (⟨(t : ℕ) * 56 + (y 0 : ℕ), h⟩ : Fin 2500) ((cfg0.win 20).xinj (cfg0.grid.coords t) y 1 : Fin 128) := by
    blk_ext [idx t]
  rw [e]
  refine Eq.trans ?_ (after20 m c t ((cfg0.win 20).xinj (cfg0.grid.coords t) y 0) ((cfg0.win 20).xinj (cfg0.grid.coords t) y 1) h)
  exact congrArg ((dats m 0 c).after 20 t) (funext fun a => by fin_cases a <;> rfl)

theorem canon21 : (dats m 0 c).after 21 t = View.canon (Val := Elt Ideal) (run m c t).2.2.2.2.2.2.2.2.1 := by
  have h : (dats m 0 c).after 21 t = VO0_21.read (Elt Ideal) (VO0_21.writes (Elt Ideal) VO0_21.junk (run m c t).2.2.2.2.2.2.2.2.1) := by
    sl_kernel_rfl
  exact h.trans (View.read_writes_junk_eq_canon (Val := Elt Ideal) VO0_21 (run m c t).2.2.2.2.2.2.2.2.1)

theorem after21 (r : Fin 56) (k : Fin 64) (b : Fin 128) (h : (t : ℕ) * 56 + r < 2500) :
    (dats m 0 c).after 21 t (ix3 r k b) = Spec.code ((args m c).net ⟨(t : ℕ) * 56 + r, h⟩ b).g1 k := by
  rw [canon21, rows21_eq]
  exact (rows3_at (N := 56) (K := 64) (M := 128) (e := .fp8e4m3) (fun r => c64 (ray m c t r).q3) inb64 r k b).trans
    ((c64_at _ k b).trans (Ray.q3_at (ray_is m c t r b h) k))

theorem final21 : (dats m 0 c).arrAt 21 cfg0.N = (args m c).codes Spec.Net.g1 := by
  refine (dats m 0 c).arrAt_eq_of_covers 21 _ (by decide +kernel) fun t hf y => ?_
  have e0 : ((((cfg0.win 21).blk t).view.emb y 0 : Fin 2500) : ℕ) = (t : ℕ) * 56 + (y 0 : ℕ) := by
    blk_simp [idx t]
  have h := (((cfg0.win 21).blk t).view.emb y 0 : Fin 2500).2
  rw [e0] at h
  have e : ((cfg0.win 21).blk t).view.emb y = ix3 (⟨(t : ℕ) * 56 + (y 0 : ℕ), h⟩ : Fin 2500) ((cfg0.win 21).xinj (cfg0.grid.coords t) y 1 : Fin 64) ((cfg0.win 21).xinj (cfg0.grid.coords t) y 2 : Fin 128) := by
    blk_ext [idx t]
  rw [e]
  refine Eq.trans ?_ (after21 m c t ((cfg0.win 21).xinj (cfg0.grid.coords t) y 0) ((cfg0.win 21).xinj (cfg0.grid.coords t) y 1) ((cfg0.win 21).xinj (cfg0.grid.coords t) y 2) h)
  exact congrArg ((dats m 0 c).after 21 t) (funext fun a => by fin_cases a <;> rfl)

theorem canon22 : (dats m 0 c).after 22 t = View.canon (Val := Elt Ideal) (run m c t).2.2.2.2.2.2.2.2.2.1 := by
  have h : (dats m 0 c).after 22 t = VO0_22.read (Elt Ideal) (VO0_22.writes (Elt Ideal) VO0_22.junk (run m c t).2.2.2.2.2.2.2.2.2.1) := by
    sl_kernel_rfl
  exact h.trans (View.read_writes_junk_eq_canon (Val := Elt Ideal) VO0_22 (run m c t).2.2.2.2.2.2.2.2.2.1)

theorem after22 (r : Fin 56) (b : Fin 128) (h : (t : ℕ) * 56 + r < 2500) : (dats m 0 c).after 22 t (ix2 r b) = Spec.scale ((args m c).net ⟨(t : ℕ) * 56 + r, h⟩ b).g1 := by
  rw [canon22, rows22_eq]
  exact (rows2_at (N := 56) (M := 128) (e := .f32) (fun r => pow (F := Ideal) (ray m c t r).e3) inb1 r b).trans
    (Ray.s3_at (ray_is m c t r b h))

theorem final22 : (dats m 0 c).arrAt 22 cfg0.N = (args m c).scales Spec.Net.g1 := by
  refine (dats m 0 c).arrAt_eq_of_covers 22 _ (by decide +kernel) fun t hf y => ?_
  have e0 : ((((cfg0.win 22).blk t).view.emb y 0 : Fin 2500) : ℕ) = (t : ℕ) * 56 + (y 0 : ℕ) := by
    blk_simp [idx t]
  have h := (((cfg0.win 22).blk t).view.emb y 0 : Fin 2500).2
  rw [e0] at h
  have e : ((cfg0.win 22).blk t).view.emb y = ix2 (⟨(t : ℕ) * 56 + (y 0 : ℕ), h⟩ : Fin 2500) ((cfg0.win 22).xinj (cfg0.grid.coords t) y 1 : Fin 128) := by
    blk_ext [idx t]
  rw [e]
  refine Eq.trans ?_ (after22 m c t ((cfg0.win 22).xinj (cfg0.grid.coords t) y 0) ((cfg0.win 22).xinj (cfg0.grid.coords t) y 1) h)
  exact congrArg ((dats m 0 c).after 22 t) (funext fun a => by fin_cases a <;> rfl)

theorem canon23 : (dats m 0 c).after 23 t = View.canon (Val := Elt Ideal) (run m c t).2.2.2.2.2.2.2.2.2.2.1 := by
  have h : (dats m 0 c).after 23 t = VO0_23.read (Elt Ideal) (VO0_23.writes (Elt Ideal) VO0_23.junk (run m c t).2.2.2.2.2.2.2.2.2.2.1) := by
    sl_kernel_rfl
  exact h.trans (View.read_writes_junk_eq_canon (Val := Elt Ideal) VO0_23 (run m c t).2.2.2.2.2.2.2.2.2.2.1)

theorem after23 (r : Fin 56) (k : Fin 64) (b : Fin 128) (h : (t : ℕ) * 56 + r < 2500) :
    (dats m 0 c).after 23 t (ix3 r k b) = Spec.code ((args m c).net ⟨(t : ℕ) * 56 + r, h⟩ b).g2 k := by
  rw [canon23, rows23_eq]
  exact (rows3_at (N := 56) (K := 64) (M := 128) (e := .fp8e4m3) (fun r => c64 (ray m c t r).q4) inb64 r k b).trans
    ((c64_at _ k b).trans (Ray.q4_at (ray_is m c t r b h) k))

theorem final23 : (dats m 0 c).arrAt 23 cfg0.N = (args m c).codes Spec.Net.g2 := by
  refine (dats m 0 c).arrAt_eq_of_covers 23 _ (by decide +kernel) fun t hf y => ?_
  have e0 : ((((cfg0.win 23).blk t).view.emb y 0 : Fin 2500) : ℕ) = (t : ℕ) * 56 + (y 0 : ℕ) := by
    blk_simp [idx t]
  have h := (((cfg0.win 23).blk t).view.emb y 0 : Fin 2500).2
  rw [e0] at h
  have e : ((cfg0.win 23).blk t).view.emb y = ix3 (⟨(t : ℕ) * 56 + (y 0 : ℕ), h⟩ : Fin 2500) ((cfg0.win 23).xinj (cfg0.grid.coords t) y 1 : Fin 64) ((cfg0.win 23).xinj (cfg0.grid.coords t) y 2 : Fin 128) := by
    blk_ext [idx t]
  rw [e]
  refine Eq.trans ?_ (after23 m c t ((cfg0.win 23).xinj (cfg0.grid.coords t) y 0) ((cfg0.win 23).xinj (cfg0.grid.coords t) y 1) ((cfg0.win 23).xinj (cfg0.grid.coords t) y 2) h)
  exact congrArg ((dats m 0 c).after 23 t) (funext fun a => by fin_cases a <;> rfl)

theorem canon24 : (dats m 0 c).after 24 t = View.canon (Val := Elt Ideal) (run m c t).2.2.2.2.2.2.2.2.2.2.2.1 := by
  have h : (dats m 0 c).after 24 t = VO0_24.read (Elt Ideal) (VO0_24.writes (Elt Ideal) VO0_24.junk (run m c t).2.2.2.2.2.2.2.2.2.2.2.1) := by
    sl_kernel_rfl
  exact h.trans (View.read_writes_junk_eq_canon (Val := Elt Ideal) VO0_24 (run m c t).2.2.2.2.2.2.2.2.2.2.2.1)

theorem after24 (r : Fin 56) (b : Fin 128) (h : (t : ℕ) * 56 + r < 2500) : (dats m 0 c).after 24 t (ix2 r b) = Spec.scale ((args m c).net ⟨(t : ℕ) * 56 + r, h⟩ b).g2 := by
  rw [canon24, rows24_eq]
  exact (rows2_at (N := 56) (M := 128) (e := .f32) (fun r => pow (F := Ideal) (ray m c t r).e4) inb1 r b).trans
    (Ray.s4_at (ray_is m c t r b h))

theorem final24 : (dats m 0 c).arrAt 24 cfg0.N = (args m c).scales Spec.Net.g2 := by
  refine (dats m 0 c).arrAt_eq_of_covers 24 _ (by decide +kernel) fun t hf y => ?_
  have e0 : ((((cfg0.win 24).blk t).view.emb y 0 : Fin 2500) : ℕ) = (t : ℕ) * 56 + (y 0 : ℕ) := by
    blk_simp [idx t]
  have h := (((cfg0.win 24).blk t).view.emb y 0 : Fin 2500).2
  rw [e0] at h
  have e : ((cfg0.win 24).blk t).view.emb y = ix2 (⟨(t : ℕ) * 56 + (y 0 : ℕ), h⟩ : Fin 2500) ((cfg0.win 24).xinj (cfg0.grid.coords t) y 1 : Fin 128) := by
    blk_ext [idx t]
  rw [e]
  refine Eq.trans ?_ (after24 m c t ((cfg0.win 24).xinj (cfg0.grid.coords t) y 0) ((cfg0.win 24).xinj (cfg0.grid.coords t) y 1) h)
  exact congrArg ((dats m 0 c).after 24 t) (funext fun a => by fin_cases a <;> rfl)

end Cert.Proof.Ker
end
-- ==== Proof.RefOps.lean ====
/- The reference's steps as functions of whole arrays, and what each is at an index. -/
module

public import proofs.«01_k».proof.Proof.Gen.ReferenceIdeal.Skeleton
public import proofs.«01_k».proof.Proof.Spec

@[expose] public section

set_option maxRecDepth 16384

noncomputable section

namespace Cert.Proof.Ref

open Idealize.ShloMosaic Cert.ReferenceIdeal Cert.ReferenceIdeal.Gen

variable {F : FTy → Type} [FloatOps F]

/-- A value per channel, ray and sample: channel last. -/
abbrev A (n : ℕ) : Shape := ⟨3, ![2500, 128, n]⟩
/-- A value per threshold, ray and sample. -/
abbrev T (n : ℕ) : Shape := ⟨3, ![n, 2500, 128]⟩

/-- The largest magnitude over the channels, times 1/448. -/
def level {n : ℕ} (h : (A n).Reduces [2] S2500x128) (v : FVec F (A n) .f32) : FVec F S2500x128 .f32 :=
  mulf (multiReduction .maximumf [2] S2500x128 (absf v) 0xFF800000#32 h (.inl rfl) rfl)
    (broadcast S2500x128 (Scalar.ofBits .f32 0x3B124925#32))

/-- The candidates: an exponent where its threshold is reached, −126 elsewhere. -/
def cands {n : ℕ} (hi : (T n).Iotas .tc 32 [0]) (hb : S1x2500x128.Broadcasts (T n)) (y : FVec F S2500x128 .f32) : IVec (T n) 32 :=
  select (cmpf .oge (broadcastTo (T n) (shapeCast S1x2500x128 y shapeCasts_S2500x128_S1x2500x128) hb)
      (bitcastToFloat .f32 (shli (addi (subi (subi (iota .tc (T n) 32 [0] hi) (broadcast _ 125#32)) (broadcast _ 1#32)) (broadcast _ 127#32))
        (broadcast _ 23#32)) : FVec F (T n) .f32))
    (subi (iota .tc (T n) 32 [0] hi) (broadcast _ 125#32)) (broadcast _ 4294967170#32)

/-- The greatest candidate, and 0 if it is −126. -/
def top {n : ℕ} (hr : (T n).Reduces [0] S2500x128) (k : IVec (T n) 32) : IVec S2500x128 32 :=
  select (cmpi .eq (multiReductionI .maxsi [0] S2500x128 k 2147483648#32 hr rfl) (broadcast S2500x128 4294967170#32))
    (broadcast S2500x128 0#32) (multiReductionI .maxsi [0] S2500x128 k 2147483648#32 hr rfl)

/-- The exponent of every row. -/
def expo (y : FVec F S2500x128 .f32) : IVec S2500x128 32 :=
  top reduces_S255x2500x128_S2500x128 (cands iota_S255x2500x128_d0_w32 broadcasts_S1x2500x128_S255x2500x128 y)

/-- `2 ^ e`. -/
def pow (e : IVec S2500x128 32) : FVec F S2500x128 .f32 :=
  bitcastToFloat .f32 (shli (addi e (broadcast S2500x128 127#32)) (broadcast S2500x128 23#32))

/-- A row factor along the channels. -/
def along {n : ℕ} (hb : S2500x128x1.Broadcasts (A n)) (s : FVec F S2500x128 .f32) : FVec F (A n) .f32 :=
  broadcastTo (A n) (shapeCast S2500x128x1 s shapeCasts_S2500x128_S2500x128x1) hb

/-- The codes at the exponents `e`. -/
def codes {n : ℕ} (hb : S2500x128x1.Broadcasts (A n)) (v : FVec F (A n) .f32) (e : IVec S2500x128 32) : FVec F (A n) .fp8e4m3 :=
  truncf .fp8e4m3 (minimumf (broadcast _ (Scalar.ofBits .f32 0x43E00000#32)) (maximumf (broadcast _ (Scalar.ofBits .f32 0xC3E00000#32))
    (mulf v (along hb (pow (subi (broadcast S2500x128 0#32) e)))))) bitsLt_fp8e4m3_f32

/-- The matrix product's result times the row's and the column's scale. -/
def scaled {n : ℕ} (hb : S2500x128x1.Broadcasts (A n)) (hc : (⟨1, ![n]⟩ : Shape).ShapeCasts ⟨3, ![1, 1, n]⟩)
    (hd : (⟨3, ![1, 1, n]⟩ : Shape).Broadcasts (A n)) (acc : FVec F (A n) .f32) (s : FVec F S2500x128 .f32) (t : Vec F ⟨1, ![n]⟩ .f32) : FVec F (A n) .f32 :=
  mulf (mulf acc (along hb s)) (broadcastTo (A n) (shapeCast ⟨3, ![1, 1, n]⟩ t hc) hd)

/-- The positive part. -/
def relu {n : ℕ} (v : FVec F (A n) .f32) : FVec F (A n) .f32 :=
  maximumf v (broadcast _ (Scalar.ofBits .f32 0x00000000#32))

def dot32x64 (q : FVec F S2500x128x32 .fp8e4m3) (w : Vec F S32x64 .fp8e4m3) : FVec F S2500x128x64 .f32 :=
  shapeCast S2500x128x64 (matmul dot_S320000x32_S32x64_S320000x64_1_0_0_1_n_n none (shapeCast S320000x32 q shapeCasts_S2500x128x32_S320000x32) w
    (constant S320000x64 .f32 0x00000000#32)) shapeCasts_S320000x64_S2500x128x64
def dot64x16 (q : FVec F S2500x128x64 .fp8e4m3) (w : Vec F S64x16 .fp8e4m3) : FVec F S2500x128x16 .f32 :=
  shapeCast S2500x128x16 (matmul dot_S320000x64_S64x16_S320000x16_1_0_0_1_n_n none (shapeCast S320000x64 q shapeCasts_S2500x128x64_S320000x64) w
    (constant S320000x16 .f32 0x00000000#32)) shapeCasts_S320000x16_S2500x128x16
def dot64x64 (q : FVec F S2500x128x64 .fp8e4m3) (w : Vec F S64x64 .fp8e4m3) : FVec F S2500x128x64 .f32 :=
  shapeCast S2500x128x64 (matmul dot_S320000x64_S64x64_S320000x64_1_0_0_1_n_n none (shapeCast S320000x64 q shapeCasts_S2500x128x64_S320000x64) w
    (constant S320000x64 .f32 0x00000000#32)) shapeCasts_S320000x64_S2500x128x64
def dot64x3 (q : FVec F S2500x128x64 .fp8e4m3) (w : Vec F S64x3 .fp8e4m3) : FVec F S2500x128x3 .f32 :=
  shapeCast S2500x128x3 (matmul dot_S320000x64_S64x3_S320000x3_1_0_0_1_n_n none (shapeCast S320000x64 q shapeCasts_S2500x128x64_S320000x64) w
    (constant S320000x3 .f32 0x00000000#32)) shapeCasts_S320000x3_S2500x128x3

theorem level_at {n : ℕ} (h) (v : FVec Ideal (A n) .f32) (a : Fin 2500) (b : Fin 128) :
    level h v (ix2 a b) = Spec.level fun k : Fin n => v (ix3 a b k) := by
  pointwise [level, Spec.level]

theorem expo_n {n : ℕ} (hr hi hb) (y : FVec Ideal S2500x128 .f32) (a : Fin 2500) (b : Fin 128) :
    top (n := n) hr (cands hi hb y) (ix2 a b) = Spec.expo n (y (ix2 a b)) := by
  pointwise [top, cands, Spec.expo]

theorem expo_at (y : FVec Ideal S2500x128 .f32) (a : Fin 2500) (b : Fin 128) : expo y (ix2 a b) = Spec.expo 255 (y (ix2 a b)) :=
  expo_n _ _ _ y a b

theorem pow_at (e : IVec S2500x128 32) (a : Fin 2500) (b : Fin 128) :
    pow (F := Ideal) e (ix2 a b) = Spec.bits (IntOp.shli .vector (IntOp.addi (e (ix2 a b)) 127#32) 23#32) := by
  pointwise [pow]

theorem codes_at {n : ℕ} (hb) (v : FVec Ideal (A n) .f32) (e : IVec S2500x128 32) (a : Fin 2500) (b : Fin 128) (k : Fin n) :
    codes hb v e (ix3 a b k) = min (Spec.bits 1138753536#32) (max (Spec.bits 3286237184#32) (v (ix3 a b k) *
      Spec.bits (IntOp.shli .vector (IntOp.addi (IntOp.subi 0#32 (e (ix2 a b))) 127#32) 23#32))) := by
  pointwise [codes, along, pow]

theorem scaled64_at (hb hc hd) (acc : FVec Ideal (A 64) .f32) (s : FVec Ideal S2500x128 .f32) (t : Vec Ideal ⟨1, ![64]⟩ .f32)
    (a : Fin 2500) (b : Fin 128) (k : Fin 64) :
    scaled hb hc hd acc s t (ix3 a b k) = acc (ix3 a b k) * s (ix2 a b) * t (ix1 k) := by
  pointwise [scaled, along]
theorem scaled16_at (hb hc hd) (acc : FVec Ideal (A 16) .f32) (s : FVec Ideal S2500x128 .f32) (t : Vec Ideal ⟨1, ![16]⟩ .f32)
    (a : Fin 2500) (b : Fin 128) (k : Fin 16) :
    scaled hb hc hd acc s t (ix3 a b k) = acc (ix3 a b k) * s (ix2 a b) * t (ix1 k) := by
  pointwise [scaled, along]
theorem scaled3_at (hb hc hd) (acc : FVec Ideal (A 3) .f32) (s : FVec Ideal S2500x128 .f32) (t : Vec Ideal ⟨1, ![3]⟩ .f32)
    (a : Fin 2500) (b : Fin 128) (k : Fin 3) :
    scaled hb hc hd acc s t (ix3 a b k) = acc (ix3 a b k) * s (ix2 a b) * t (ix1 k) := by
  pointwise [scaled, along]

theorem relu_at {n : ℕ} (v : FVec Ideal (A n) .f32) (a : Fin 2500) (b : Fin 128) (k : Fin n) :
    relu v (ix3 a b k) = max (v (ix3 a b k)) 0 := by
  pointwise [relu]

theorem dot32x64_at (q : FVec Ideal S2500x128x32 .fp8e4m3) (w : Vec Ideal S32x64 .fp8e4m3) (a : Fin 2500) (b : Fin 128) (k : Fin 64) :
    dot32x64 q w (ix3 a b k) = ∑ x : Fin 32, q (ix3 a b x) * w (ix2 x k) := by
  pointwise [dot32x64]
theorem dot64x16_at (q : FVec Ideal S2500x128x64 .fp8e4m3) (w : Vec Ideal S64x16 .fp8e4m3) (a : Fin 2500) (b : Fin 128) (k : Fin 16) :
    dot64x16 q w (ix3 a b k) = ∑ x : Fin 64, q (ix3 a b x) * w (ix2 x k) := by
  pointwise [dot64x16]
theorem dot64x64_at (q : FVec Ideal S2500x128x64 .fp8e4m3) (w : Vec Ideal S64x64 .fp8e4m3) (a : Fin 2500) (b : Fin 128) (k : Fin 64) :
    dot64x64 q w (ix3 a b k) = ∑ x : Fin 64, q (ix3 a b x) * w (ix2 x k) := by
  pointwise [dot64x64]
theorem dot64x3_at (q : FVec Ideal S2500x128x64 .fp8e4m3) (w : Vec Ideal S64x3 .fp8e4m3) (a : Fin 2500) (b : Fin 128) (k : Fin 3) :
    dot64x3 q w (ix3 a b k) = ∑ x : Fin 64, q (ix3 a b x) * w (ix2 x k) := by
  pointwise [dot64x3]

end Cert.Proof.Ref
-- ==== Proof.RefNet.lean ====
/- The reference's network: its arrays step by step, each program result as one of them, and each at an index. -/
module

public import proofs.«01_k».proof.Proof.Gen.ReferenceIdeal.Frame
public import proofs.«01_k».proof.Proof.RefOps

@[expose] public section

set_option maxRecDepth 16384

noncomputable section

namespace Cert.Proof.Ref

open Idealize.ShloMosaic Cert.ReferenceIdeal Cert.ReferenceIdeal.Gen

variable {F : FTy → Type} [FloatOps F]

/-- The network's inputs, as the body loads them. -/
structure In (F : FTy → Type) where
  f : Vec F S2500x128x32 .f32
  d : Vec F S2500x3 .f32
  w0 : Vec F S32x64 .fp8e4m3
  t0 : Vec F S64 .f32
  w1 : Vec F S64x16 .fp8e4m3
  t1 : Vec F S16 .f32
  w2 : Vec F S32x64 .fp8e4m3
  t2 : Vec F S64 .f32
  w3 : Vec F S64x64 .fp8e4m3
  t3 : Vec F S64 .f32
  w4 : Vec F S64x3 .fp8e4m3
  t4 : Vec F S3 .f32

/-- The harmonics of the directions, one row per ray. -/
def shRow (d : Vec F S2500x3 .f32) : FVec F S2500x16 .f32 :=
  let x : FVec F S2500x1 .f32 := k0_pay16 d
  let y : FVec F S2500x1 .f32 := k0_pay17 d
  let z : FVec F S2500x1 .f32 := k0_pay18 d
  let c (w : BitVec 32) : FVec F S2500x1 .f32 := broadcast S2500x1 (Scalar.ofBits .f32 w)
  let xx := mulf x x
  let yy := mulf y y
  let zz := mulf z z
  concatenate S2500x16 1 [⟨S2500x1, c 0x3E906EBB#32⟩, ⟨S2500x1, mulf (c 0xBEFA2A1C#32) y⟩, ⟨S2500x1, mulf (c 0x3EFA2A1C#32) z⟩,
    ⟨S2500x1, mulf (c 0xBEFA2A1C#32) x⟩, ⟨S2500x1, mulf (mulf (c 0x3F8BD8A1#32) x) y⟩, ⟨S2500x1, mulf (mulf (c 0xBF8BD8A1#32) y) z⟩,
    ⟨S2500x1, subf (mulf (c 0x3F723881#32) zz) (c 0x3EA17B01#32)⟩, ⟨S2500x1, mulf (mulf (c 0xBF8BD8A1#32) x) z⟩,
    ⟨S2500x1, mulf (c 0x3F0BD8A1#32) (subf xx yy)⟩, ⟨S2500x1, mulf (mulf (c 0x3F170D19#32) y) (addf (mulf (c 0xC0400000#32) xx) yy)⟩,
    ⟨S2500x1, mulf (mulf (mulf (c 0x4038FFC7#32) x) y) z⟩,
    ⟨S2500x1, mulf (mulf (c 0x3EEA01E8#32) y) (subf (c 0x3F800000#32) (mulf (c 0x40A00000#32) zz))⟩,
    ⟨S2500x1, mulf (mulf (c 0x3EBF10F8#32) z) (subf (mulf (c 0x40A00000#32) zz) (c 0x40400000#32))⟩,
    ⟨S2500x1, mulf (mulf (c 0x3EEA01E8#32) x) (subf (c 0x3F800000#32) (mulf (c 0x40A00000#32) zz))⟩,
    ⟨S2500x1, mulf (mulf (c 0x3FB8FFC7#32) z) (subf xx yy)⟩,
    ⟨S2500x1, mulf (mulf (c 0x3F170D19#32) x) (addf (subf (c 0x00000000#32) xx) (mulf (c 0x40400000#32) yy))⟩]
    concatenates_S2500x1_S2500x1_S2500x1_S2500x1_S2500x1_S2500x1_S2500x1_S2500x1_S2500x1_S2500x1_S2500x1_S2500x1_S2500x1_S2500x1_S2500x1_S2500x1_S2500x16_d1

/-- The colour network's input from the density network's output and the harmonics. -/
def cat (h : FVec F S2500x128x16 .f32) (r : FVec F S2500x16 .f32) : FVec F S2500x128x32 .f32 :=
  concatenate S2500x128x32 2 [⟨S2500x128x16, h⟩, ⟨S2500x128x16, broadcastTo S2500x128x16
    (shapeCast S2500x1x16 (shapeCast S2500x1x16 r shapeCasts_S2500x16_S2500x1x16) shapeCasts_S2500x1x16_S2500x1x16)
    broadcasts_S2500x1x16_S2500x128x16⟩] concatenates_S2500x128x16_S2500x128x16_S2500x128x32_d2

namespace In
variable (I : In F)

def v0 : FVec F S2500x128x32 .f32 := shapeCast S2500x128x32 I.f shapeCasts_S2500x128x32_S2500x128x32
def e0 : IVec S2500x128 32 := expo (level reduces_S2500x128x32_S2500x128 I.v0)
def q0 : FVec F S2500x128x32 .fp8e4m3 := codes broadcasts_S2500x128x1_S2500x128x32 I.v0 I.e0
def h1 : FVec F S2500x128x64 .f32 := relu (scaled broadcasts_S2500x128x1_S2500x128x64 shapeCasts_S64_S1x1x64 broadcasts_S1x1x64_S2500x128x64 (dot32x64 I.q0 I.w0) (pow I.e0) I.t0)
def e1 : IVec S2500x128 32 := expo (level reduces_S2500x128x64_S2500x128 I.h1)
def q1 : FVec F S2500x128x64 .fp8e4m3 := codes broadcasts_S2500x128x1_S2500x128x64 I.h1 I.e1
def h : FVec F S2500x128x16 .f32 := scaled broadcasts_S2500x128x1_S2500x128x16 shapeCasts_S16_S1x1x16 broadcasts_S1x1x16_S2500x128x16 (dot64x16 I.q1 I.w1) (pow I.e1) I.t1
def cin : FVec F S2500x128x32 .f32 := cat I.h (shRow I.d)
def e2 : IVec S2500x128 32 := expo (level reduces_S2500x128x32_S2500x128 I.cin)
def q2 : FVec F S2500x128x32 .fp8e4m3 := codes broadcasts_S2500x128x1_S2500x128x32 I.cin I.e2
def g1 : FVec F S2500x128x64 .f32 := relu (scaled broadcasts_S2500x128x1_S2500x128x64 shapeCasts_S64_S1x1x64 broadcasts_S1x1x64_S2500x128x64 (dot32x64 I.q2 I.w2) (pow I.e2) I.t2)
def e3 : IVec S2500x128 32 := expo (level reduces_S2500x128x64_S2500x128 I.g1)
def q3 : FVec F S2500x128x64 .fp8e4m3 := codes broadcasts_S2500x128x1_S2500x128x64 I.g1 I.e3
def g2 : FVec F S2500x128x64 .f32 := relu (scaled broadcasts_S2500x128x1_S2500x128x64 shapeCasts_S64_S1x1x64 broadcasts_S1x1x64_S2500x128x64 (dot64x64 I.q3 I.w3) (pow I.e3) I.t3)
def e4 : IVec S2500x128 32 := expo (level reduces_S2500x128x64_S2500x128 I.g2)
def q4 : FVec F S2500x128x64 .fp8e4m3 := codes broadcasts_S2500x128x1_S2500x128x64 I.g2 I.e4
def o : FVec F S2500x128x3 .f32 := scaled broadcasts_S2500x128x1_S2500x128x3 shapeCasts_S3_S1x1x3 broadcasts_S1x1x3_S2500x128x3 (dot64x3 I.q4 I.w4) (pow I.e4) I.t4
def sigma : FVec F S2500x128 .bf16 := truncf .bf16 (exp (shapeCast S2500x128
  (extractStridedSlice S2500x128x1 ![0, 0, 0] I.h slices_S2500x128x16_o0_0_0_S2500x128x1) shapeCasts_S2500x128x1_S2500x128)) bitsLt_bf16_f32
def rgb : FVec F S2500x128x3 .bf16 := truncf .bf16 (logistic I.o) bitsLt_bf16_f32
def ch (k : ℕ) (h : S2500x128x3.Slices ![0, 0, k] S2500x128x1) : FVec F S1x2500x128 .bf16 :=
  shapeCast S1x2500x128 (shapeCast S2500x128 (extractStridedSlice S2500x128x1 ![0, 0, k] I.rgb h)
    shapeCasts_S2500x128x1_S2500x128) shapeCasts_S2500x128_S1x2500x128
def c32 (q : FVec F S2500x128x32 .fp8e4m3) : FVec F S2500x32x128 .fp8e4m3 :=
  transpose S2500x32x128 [0, 2, 1] q transposes_S2500x128x32_p0_2_1_S2500x32x128
def c64 (q : FVec F S2500x128x64 .fp8e4m3) : FVec F S2500x64x128 .fp8e4m3 :=
  transpose S2500x64x128 [0, 2, 1] q transposes_S2500x128x64_p0_2_1_S2500x64x128

end In

variable (x0 : Vec F S2500x128x32 .f32) (x1 : Vec F S2500x3 .f32) (x2 : Vec F S32x64 .fp8e4m3) (x3 : Vec F S64 .f32) (x4 : Vec F S64x16 .fp8e4m3) (x5 : Vec F S16 .f32) (x6 : Vec F S32x64 .fp8e4m3) (x7 : Vec F S64 .f32) (x8 : Vec F S64x64 .fp8e4m3) (x9 : Vec F S64 .f32) (x10 : Vec F S64x3 .fp8e4m3) (x11 : Vec F S3 .f32)

/-- The inputs at the twelve staged blocks. -/
def ofBlocks : In F :=
  ⟨View.ld x0 r0_0, View.ld x1 r0_6, View.ld x2 r0_1, View.ld x3 r0_2, View.ld x4 r0_3, View.ld x5 r0_4, View.ld x6 r0_1, View.ld x7 r0_2,
    View.ld x8 r0_7, View.ld x9 r0_2, View.ld x10 r0_8, View.ld x11 r0_9⟩

theorem out0_12_eq : out0_12 x0 x1 x2 x3 x4 x5 x6 x7 x8 x9 x10 x11 = View.canon [⟨r0_5, (ofBlocks x0 x1 x2 x3 x4 x5 x6 x7 x8 x9 x10 x11).sigma⟩] := rfl
theorem out0_13_eq : out0_13 x0 x1 x2 x3 x4 x5 x6 x7 x8 x9 x10 x11 = View.canon [⟨r0_12, (ofBlocks x0 x1 x2 x3 x4 x5 x6 x7 x8 x9 x10 x11).ch 2 slices_S2500x128x3_o0_0_2_S2500x128x1⟩, ⟨r0_11, (ofBlocks x0 x1 x2 x3 x4 x5 x6 x7 x8 x9 x10 x11).ch 1 slices_S2500x128x3_o0_0_1_S2500x128x1⟩, ⟨r0_10, (ofBlocks x0 x1 x2 x3 x4 x5 x6 x7 x8 x9 x10 x11).ch 0 slices_S2500x128x3_o0_0_0_S2500x128x1⟩] := rfl
theorem out0_14_eq : out0_14 x0 x1 x2 x3 x4 x5 x6 x7 x8 x9 x10 x11 = View.canon [⟨r0_13, In.c32 (ofBlocks x0 x1 x2 x3 x4 x5 x6 x7 x8 x9 x10 x11).q0⟩] := rfl
theorem out0_15_eq : out0_15 x0 x1 x2 x3 x4 x5 x6 x7 x8 x9 x10 x11 = View.canon [⟨r0_5, pow (ofBlocks x0 x1 x2 x3 x4 x5 x6 x7 x8 x9 x10 x11).e0⟩] := rfl
theorem out0_16_eq : out0_16 x0 x1 x2 x3 x4 x5 x6 x7 x8 x9 x10 x11 = View.canon [⟨r0_14, In.c64 (ofBlocks x0 x1 x2 x3 x4 x5 x6 x7 x8 x9 x10 x11).q1⟩] := rfl
theorem out0_17_eq : out0_17 x0 x1 x2 x3 x4 x5 x6 x7 x8 x9 x10 x11 = View.canon [⟨r0_5, pow (ofBlocks x0 x1 x2 x3 x4 x5 x6 x7 x8 x9 x10 x11).e1⟩] := rfl
theorem out0_18_eq : out0_18 x0 x1 x2 x3 x4 x5 x6 x7 x8 x9 x10 x11 = View.canon [⟨r0_13, In.c32 (ofBlocks x0 x1 x2 x3 x4 x5 x6 x7 x8 x9 x10 x11).q2⟩] := rfl
theorem out0_19_eq : out0_19 x0 x1 x2 x3 x4 x5 x6 x7 x8 x9 x10 x11 = View.canon [⟨r0_5, pow (ofBlocks x0 x1 x2 x3 x4 x5 x6 x7 x8 x9 x10 x11).e2⟩] := rfl
theorem out0_20_eq : out0_20 x0 x1 x2 x3 x4 x5 x6 x7 x8 x9 x10 x11 = View.canon [⟨r0_14, In.c64 (ofBlocks x0 x1 x2 x3 x4 x5 x6 x7 x8 x9 x10 x11).q3⟩] := rfl
theorem out0_21_eq : out0_21 x0 x1 x2 x3 x4 x5 x6 x7 x8 x9 x10 x11 = View.canon [⟨r0_5, pow (ofBlocks x0 x1 x2 x3 x4 x5 x6 x7 x8 x9 x10 x11).e3⟩] := rfl
theorem out0_22_eq : out0_22 x0 x1 x2 x3 x4 x5 x6 x7 x8 x9 x10 x11 = View.canon [⟨r0_14, In.c64 (ofBlocks x0 x1 x2 x3 x4 x5 x6 x7 x8 x9 x10 x11).q4⟩] := rfl
theorem out0_23_eq : out0_23 x0 x1 x2 x3 x4 x5 x6 x7 x8 x9 x10 x11 = View.canon [⟨r0_5, pow (ofBlocks x0 x1 x2 x3 x4 x5 x6 x7 x8 x9 x10 x11).e4⟩] := rfl

end Cert.Proof.Ref
-- ==== Proof.RefRead.lean ====
/- The reference's arrays at an index: the network at that ray and sample. -/
module

public import proofs.«01_k».proof.Proof.RefNet

@[expose] public section

set_option maxRecDepth 16384

noncomputable section

namespace Cert.Proof.Ref

open Idealize.ShloMosaic Cert.ReferenceIdeal Cert.ReferenceIdeal.Gen

theorem quant_at {n : ℕ} {hr} {v : FVec Ideal (A n) .f32} {g : Fin n → EReal} {a : Fin 2500} {b : Fin 128}
    (h : ∀ k, v (ix3 a b k) = g k) : expo (level hr v) (ix2 a b) = Spec.expo 255 (Spec.level g) := by
  rw [expo_at, level_at, funext h]

theorem code_at {n : ℕ} {hr hb} {v : FVec Ideal (A n) .f32} {g : Fin n → EReal} {a : Fin 2500} {b : Fin 128}
    (h : ∀ k, v (ix3 a b k) = g k) (k : Fin n) : codes hb v (expo (level hr v)) (ix3 a b k) = Spec.code g k := by
  rw [codes_at, quant_at h, h]; rfl

theorem scale_at {n : ℕ} {hr} {v : FVec Ideal (A n) .f32} {g : Fin n → EReal} {a : Fin 2500} {b : Fin 128}
    (h : ∀ k, v (ix3 a b k) = g k) : pow (F := Ideal) (expo (level hr v)) (ix2 a b) = Spec.scale g := by
  rw [pow_at, quant_at h]; rfl

theorem shRow_at (d : Vec Ideal S2500x3 .f32) (a : Fin 2500) (k : Fin 16) :
    shRow d (ix2 a k) = Spec.sh k (d (ix2 a 0)) (d (ix2 a 1)) (d (ix2 a 2)) := by
  fin_cases k <;> pointwise [shRow, Spec.sh, k0_pay16, k0_pay17, k0_pay18]

theorem cat_lo (h : FVec Ideal S2500x128x16 .f32) (r : FVec Ideal S2500x16 .f32) (a : Fin 2500) (b : Fin 128) (k : Fin 32) (hk : (k : ℕ) < 16) :
    cat h r (ix3 a b k) = h (ix3 a b ⟨k, hk⟩) := by
  pointwise [cat]
  rw [dif_pos hk]

theorem cat_hi (h : FVec Ideal S2500x128x16 .f32) (r : FVec Ideal S2500x16 .f32) (a : Fin 2500) (b : Fin 128) (k : Fin 32) (hk : ¬ (k : ℕ) < 16) :
    cat h r (ix3 a b k) = r (ix2 a ⟨(k : ℕ) - 16, by omega⟩) := by
  pointwise [cat]
  rw [dif_neg hk]

namespace In
variable (I : In Ideal) (a : Fin 2500) (b : Fin 128)

/-- The network's inputs at ray `a` and sample `b`. -/
def net : Spec.Net where
  f k := I.f (ix3 a b k)
  d k := I.d (ix2 a k)
  w0 i j := I.w0 (ix2 i j)
  t0 j := I.t0 (ix1 j)
  w1 i j := I.w1 (ix2 i j)
  t1 j := I.t1 (ix1 j)
  w2 i j := I.w2 (ix2 i j)
  t2 j := I.t2 (ix1 j)
  w3 i j := I.w3 (ix2 i j)
  t3 j := I.t3 (ix1 j)
  w4 i j := I.w4 (ix2 i j)
  t4 j := I.t4 (ix1 j)

theorem v0_at (k : Fin 32) : I.v0 (ix3 a b k) = (I.net a b).f k := by
  pointwise [v0, net]
theorem q0_at (k : Fin 32) : I.q0 (ix3 a b k) = Spec.code (I.net a b).f k := code_at (I.v0_at a b) k
theorem s0_at : pow (F := Ideal) I.e0 (ix2 a b) = Spec.scale (I.net a b).f := scale_at (I.v0_at a b)
theorem h1_at (k : Fin 64) : I.h1 (ix3 a b k) = (I.net a b).h1 k := by
  rw [h1, relu_at, scaled64_at, dot32x64_at, s0_at]
  simp only [q0_at]; rfl
theorem q1_at (k : Fin 64) : I.q1 (ix3 a b k) = Spec.code (I.net a b).h1 k := code_at (I.h1_at a b) k
theorem s1_at : pow (F := Ideal) I.e1 (ix2 a b) = Spec.scale (I.net a b).h1 := scale_at (I.h1_at a b)
theorem h_at (k : Fin 16) : I.h (ix3 a b k) = (I.net a b).h k := by
  rw [h, scaled16_at, dot64x16_at, s1_at]
  simp only [q1_at]; rfl
theorem cin_at (k : Fin 32) : I.cin (ix3 a b k) = (I.net a b).cin k := by
  rw [cin, Spec.Net.cin]
  by_cases hk : (k : ℕ) < 16
  · rw [cat_lo _ _ _ _ _ hk, dif_pos hk, h_at]
  · rw [cat_hi _ _ _ _ _ hk, dif_neg hk, shRow_at]; rfl
theorem q2_at (k : Fin 32) : I.q2 (ix3 a b k) = Spec.code (I.net a b).cin k := code_at (I.cin_at a b) k
theorem s2_at : pow (F := Ideal) I.e2 (ix2 a b) = Spec.scale (I.net a b).cin := scale_at (I.cin_at a b)
theorem g1_at (k : Fin 64) : I.g1 (ix3 a b k) = (I.net a b).g1 k := by
  rw [g1, relu_at, scaled64_at, dot32x64_at, s2_at]
  simp only [q2_at]; rfl
theorem q3_at (k : Fin 64) : I.q3 (ix3 a b k) = Spec.code (I.net a b).g1 k := code_at (I.g1_at a b) k
theorem s3_at : pow (F := Ideal) I.e3 (ix2 a b) = Spec.scale (I.net a b).g1 := scale_at (I.g1_at a b)
theorem g2_at (k : Fin 64) : I.g2 (ix3 a b k) = (I.net a b).g2 k := by
  rw [g2, relu_at, scaled64_at, dot64x64_at, s3_at]
  simp only [q3_at]; rfl
theorem q4_at (k : Fin 64) : I.q4 (ix3 a b k) = Spec.code (I.net a b).g2 k := code_at (I.g2_at a b) k
theorem s4_at : pow (F := Ideal) I.e4 (ix2 a b) = Spec.scale (I.net a b).g2 := scale_at (I.g2_at a b)
theorem o_at (k : Fin 3) : I.o (ix3 a b k) = (I.net a b).o k := by
  rw [o, scaled3_at, dot64x3_at, s4_at]
  simp only [q4_at]; rfl

theorem sigma_at : I.sigma (ix2 a b) = Ideal.exp ((I.net a b).h 0) := by
  rw [← h_at]; pointwise [sigma]
theorem ch_at (i : ℕ) (hi : i < 3) (hs) : I.ch i hs (ix3 (0 : Fin 1) a b) = Ideal.logistic ((I.net a b).o ⟨i, hi⟩) := by
  rw [← o_at]; pointwise [ch, rgb]
end In

theorem c32_at (q : FVec Ideal S2500x128x32 .fp8e4m3) (a : Fin 2500) (b : Fin 128) (k : Fin 32) :
    In.c32 q (ix3 a k b) = q (ix3 a b k) := by pointwise [In.c32]
theorem c64_at (q : FVec Ideal S2500x128x64 .fp8e4m3) (a : Fin 2500) (b : Fin 128) (k : Fin 64) :
    In.c64 q (ix3 a k b) = q (ix3 a b k) := by pointwise [In.c64]

end Cert.Proof.Ref
-- ==== Proof.RefFinal.lean ====
/- The reference's result arrays: the network's, at its arguments. -/
module

public import proofs.«01_k».proof.Proof.RefRead
public import proofs.«01_k».proof.Proof.Arrays
public import Idealize.ShloMosaic.Lib.Pipeline.ValueKit

@[expose] public section

set_option maxRecDepth 16384

noncomputable section

namespace Cert.Proof.Ref

open Idealize.ShloMosaic Idealize.ShloMosaic.TcCoe Cert.ReferenceIdeal Cert.ReferenceIdeal.Gen
open Idealize.ShloMosaic.Pipeline (Dat)

variable (m : (ℓ : Loc nD τ sig) → Buf (Elt Ideal) ℓ) (c : Dev nD)

/-- The arguments as launched. -/
def args : Spec.Args where
  enc := m ((c : Thread nD τ).loc main_arg0)
  dirs := m ((c : Thread nD τ).loc main_arg1)
  ts := m ((c : Thread nD τ).loc main_arg2)
  w0 := m ((c : Thread nD τ).loc main_arg3)
  t0 := m ((c : Thread nD τ).loc main_arg4)
  w1 := m ((c : Thread nD τ).loc main_arg5)
  t1 := m ((c : Thread nD τ).loc main_arg6)
  w2 := m ((c : Thread nD τ).loc main_arg7)
  t2 := m ((c : Thread nD τ).loc main_arg8)
  w3 := m ((c : Thread nD τ).loc main_arg9)
  t3 := m ((c : Thread nD τ).loc main_arg10)
  w4 := m ((c : Thread nD τ).loc main_arg11)
  t4 := m ((c : Thread nD τ).loc main_arg12)

/-- The inputs at the one grid point. -/
abbrev ins (t : Fin cfg0.N) : In Ideal := ofBlocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem idx : ∀ t : Fin cfg0.N, win0_0.index t = ![0, 0, 0] ∧ win0_1.index t = ![0, 0] ∧ win0_2.index t = ![0, 0] ∧ win0_3.index t = ![0] ∧ win0_4.index t = ![0, 0] ∧ win0_5.index t = ![0] ∧ win0_6.index t = ![0, 0] ∧ win0_7.index t = ![0] ∧ win0_8.index t = ![0, 0] ∧ win0_9.index t = ![0] ∧ win0_10.index t = ![0, 0] ∧ win0_11.index t = ![0] :=
  (by decide +kernel : ∀ t : Fin grid0.N, _)

theorem ld_r0_0 (X : Vec Ideal S2500x128x32 .f32) : View.ld X r0_0 = X :=
  View.ld_unit_zero (S := S2500x128x32) (Val := Elt Ideal) (off := ![0, 0, 0]) (by funext i; fin_cases i <;> rfl) _ X
theorem ld_r0_6 (X : Vec Ideal S2500x3 .f32) : View.ld X r0_6 = X :=
  View.ld_unit_zero (S := S2500x3) (Val := Elt Ideal) (off := ![0, 0]) (by funext i; fin_cases i <;> rfl) _ X
theorem ld_r0_1 (X : Vec Ideal S32x64 .fp8e4m3) : View.ld X r0_1 = X :=
  View.ld_unit_zero (S := S32x64) (Val := Elt Ideal) (off := ![0, 0]) (by funext i; fin_cases i <;> rfl) _ X
theorem ld_r0_2 (X : Vec Ideal S64 .f32) : View.ld X r0_2 = X :=
  View.ld_unit_zero (S := S64) (Val := Elt Ideal) (off := ![0]) (by funext i; fin_cases i <;> rfl) _ X
theorem ld_r0_3 (X : Vec Ideal S64x16 .fp8e4m3) : View.ld X r0_3 = X :=
  View.ld_unit_zero (S := S64x16) (Val := Elt Ideal) (off := ![0, 0]) (by funext i; fin_cases i <;> rfl) _ X
theorem ld_r0_4 (X : Vec Ideal S16 .f32) : View.ld X r0_4 = X :=
  View.ld_unit_zero (S := S16) (Val := Elt Ideal) (off := ![0]) (by funext i; fin_cases i <;> rfl) _ X
theorem ld_r0_7 (X : Vec Ideal S64x64 .fp8e4m3) : View.ld X r0_7 = X :=
  View.ld_unit_zero (S := S64x64) (Val := Elt Ideal) (off := ![0, 0]) (by funext i; fin_cases i <;> rfl) _ X
theorem ld_r0_8 (X : Vec Ideal S64x3 .fp8e4m3) : View.ld X r0_8 = X :=
  View.ld_unit_zero (S := S64x3) (Val := Elt Ideal) (off := ![0, 0]) (by funext i; fin_cases i <;> rfl) _ X
theorem ld_r0_9 (X : Vec Ideal S3 .f32) : View.ld X r0_9 = X :=
  View.ld_unit_zero (S := S3) (Val := Elt Ideal) (off := ![0]) (by funext i; fin_cases i <;> rfl) _ X
theorem iblk1 (t : Fin cfg0.N) : iblk m c 1 t = m ((c : Thread nD τ).loc main_arg1) := by
  blk_ext! [iblk, V, idx t]
theorem iblk2 (t : Fin cfg0.N) : iblk m c 2 t = m ((c : Thread nD τ).loc main_arg3) := by
  blk_ext! [iblk, V, idx t]
theorem iblk3 (t : Fin cfg0.N) : iblk m c 3 t = m ((c : Thread nD τ).loc main_arg4) := by
  blk_ext! [iblk, V, idx t]
theorem iblk4 (t : Fin cfg0.N) : iblk m c 4 t = m ((c : Thread nD τ).loc main_arg5) := by
  blk_ext! [iblk, V, idx t]
theorem iblk5 (t : Fin cfg0.N) : iblk m c 5 t = m ((c : Thread nD τ).loc main_arg6) := by
  blk_ext! [iblk, V, idx t]
theorem iblk6 (t : Fin cfg0.N) : iblk m c 6 t = m ((c : Thread nD τ).loc main_arg7) := by
  blk_ext! [iblk, V, idx t]
theorem iblk7 (t : Fin cfg0.N) : iblk m c 7 t = m ((c : Thread nD τ).loc main_arg8) := by
  blk_ext! [iblk, V, idx t]
theorem iblk8 (t : Fin cfg0.N) : iblk m c 8 t = m ((c : Thread nD τ).loc main_arg9) := by
  blk_ext! [iblk, V, idx t]
theorem iblk9 (t : Fin cfg0.N) : iblk m c 9 t = m ((c : Thread nD τ).loc main_arg10) := by
  blk_ext! [iblk, V, idx t]
theorem iblk10 (t : Fin cfg0.N) : iblk m c 10 t = m ((c : Thread nD τ).loc main_arg11) := by
  blk_ext! [iblk, V, idx t]
theorem iblk11 (t : Fin cfg0.N) : iblk m c 11 t = m ((c : Thread nD τ).loc main_arg12) := by
  blk_ext! [iblk, V, idx t]
theorem iblk0 (t : Fin cfg0.N) : iblk m c 0 t = V m c main_v6 := by
  funext j
  blk_simp [iblk, idx t]
  blk_ext [idx t]

theorem feat (a : Fin 2500) (b : Fin 128) (k : Fin 32) : (V m c main_v6 : FVec Ideal S2500x128x32 .f32) (ix3 a b k) = ((args m c).net a b).f k := by
  entry_read
  pointwise [args, Spec.Args.net]

theorem ofBlocks_eq (x0 : Vec Ideal S2500x128x32 .f32) (x1 : Vec Ideal S2500x3 .f32) (x2 : Vec Ideal S32x64 .fp8e4m3) (x3 : Vec Ideal S64 .f32) (x4 : Vec Ideal S64x16 .fp8e4m3) (x5 : Vec Ideal S16 .f32) (x6 : Vec Ideal S32x64 .fp8e4m3) (x7 : Vec Ideal S64 .f32) (x8 : Vec Ideal S64x64 .fp8e4m3) (x9 : Vec Ideal S64 .f32) (x10 : Vec Ideal S64x3 .fp8e4m3) (x11 : Vec Ideal S3 .f32) :
    ofBlocks x0 x1 x2 x3 x4 x5 x6 x7 x8 x9 x10 x11 = ⟨x0, x1, x2, x3, x4, x5, x6, x7, x8, x9, x10, x11⟩ := by
  unfold ofBlocks
  simp only [ld_r0_0, ld_r0_1, ld_r0_2, ld_r0_3, ld_r0_4, ld_r0_6, ld_r0_7, ld_r0_8, ld_r0_9]

theorem net_eq (t : Fin cfg0.N) (a : Fin 2500) (b : Fin 128) : (ins m c t).net a b = (args m c).net a b := by
  have h : ins m c t = ⟨V m c main_v6, (args m c).dirs, (args m c).w0, (args m c).t0, (args m c).w1, (args m c).t1, (args m c).w2,
      (args m c).t2, (args m c).w3, (args m c).t3, (args m c).w4, (args m c).t4⟩ :=
    (ofBlocks_eq _ _ _ _ _ _ _ _ _ _ _ _).trans (by
      rw [In.mk.injEq]
      exact ⟨iblk0 m c t, iblk1 m c t, iblk2 m c t, iblk3 m c t, iblk4 m c t, iblk5 m c t, iblk6 m c t, iblk7 m c t, iblk8 m c t, iblk9 m c t, iblk10 m c t, iblk11 m c t⟩)
  rw [h]
  exact congrArg (fun f => { (args m c).net a b with f := f }) (funext (feat m c a b))

theorem final12 : (dats m 0 c).arrAt 12 (cfgs 0).N = (args m c).sigma := by
  refine (dats m 0 c).arrAt_eq_of_after_last 12 t0_0 (by decide +kernel) _ fun j => ?_
  blk_simp
  rw [after0_12, out0_12_eq]
  frame_out
  idx_vars j
  exact (In.sigma_at _ _ _).trans (by rw [net_eq]; rfl)
theorem final14 : (dats m 0 c).arrAt 14 (cfgs 0).N = (args m c).codes Spec.Net.f := by
  refine (dats m 0 c).arrAt_eq_of_after_last 14 t0_0 (by decide +kernel) _ fun j => ?_
  blk_simp
  rw [after0_14, out0_14_eq]
  frame_out
  idx_vars j
  exact ((c32_at _ _ _ _).trans (In.q0_at _ _ _ _)).trans (by rw [net_eq]; rfl)
theorem final15 : (dats m 0 c).arrAt 15 (cfgs 0).N = (args m c).scales Spec.Net.f := by
  refine (dats m 0 c).arrAt_eq_of_after_last 15 t0_0 (by decide +kernel) _ fun j => ?_
  blk_simp
  rw [after0_15, out0_15_eq]
  frame_out
  idx_vars j
  exact (In.s0_at _ _ _).trans (by rw [net_eq]; rfl)
theorem final16 : (dats m 0 c).arrAt 16 (cfgs 0).N = (args m c).codes Spec.Net.h1 := by
  refine (dats m 0 c).arrAt_eq_of_after_last 16 t0_0 (by decide +kernel) _ fun j => ?_
  blk_simp
  rw [after0_16, out0_16_eq]
  frame_out
  idx_vars j
  exact ((c64_at _ _ _ _).trans (In.q1_at _ _ _ _)).trans (by rw [net_eq]; rfl)
theorem final17 : (dats m 0 c).arrAt 17 (cfgs 0).N = (args m c).scales Spec.Net.h1 := by
  refine (dats m 0 c).arrAt_eq_of_after_last 17 t0_0 (by decide +kernel) _ fun j => ?_
  blk_simp
  rw [after0_17, out0_17_eq]
  frame_out
  idx_vars j
  exact (In.s1_at _ _ _).trans (by rw [net_eq]; rfl)
theorem final18 : (dats m 0 c).arrAt 18 (cfgs 0).N = (args m c).codes Spec.Net.cin := by
  refine (dats m 0 c).arrAt_eq_of_after_last 18 t0_0 (by decide +kernel) _ fun j => ?_
  blk_simp
  rw [after0_18, out0_18_eq]
  frame_out
  idx_vars j
  exact ((c32_at _ _ _ _).trans (In.q2_at _ _ _ _)).trans (by rw [net_eq]; rfl)
theorem final19 : (dats m 0 c).arrAt 19 (cfgs 0).N = (args m c).scales Spec.Net.cin := by
  refine (dats m 0 c).arrAt_eq_of_after_last 19 t0_0 (by decide +kernel) _ fun j => ?_
  blk_simp
  rw [after0_19, out0_19_eq]
  frame_out
  idx_vars j
  exact (In.s2_at _ _ _).trans (by rw [net_eq]; rfl)
theorem final20 : (dats m 0 c).arrAt 20 (cfgs 0).N = (args m c).codes Spec.Net.g1 := by
  refine (dats m 0 c).arrAt_eq_of_after_last 20 t0_0 (by decide +kernel) _ fun j => ?_
  blk_simp
  rw [after0_20, out0_20_eq]
  frame_out
  idx_vars j
  exact ((c64_at _ _ _ _).trans (In.q3_at _ _ _ _)).trans (by rw [net_eq]; rfl)
theorem final21 : (dats m 0 c).arrAt 21 (cfgs 0).N = (args m c).scales Spec.Net.g1 := by
  refine (dats m 0 c).arrAt_eq_of_after_last 21 t0_0 (by decide +kernel) _ fun j => ?_
  blk_simp
  rw [after0_21, out0_21_eq]
  frame_out
  idx_vars j
  exact (In.s3_at _ _ _).trans (by rw [net_eq]; rfl)
theorem final22 : (dats m 0 c).arrAt 22 (cfgs 0).N = (args m c).codes Spec.Net.g2 := by
  refine (dats m 0 c).arrAt_eq_of_after_last 22 t0_0 (by decide +kernel) _ fun j => ?_
  blk_simp
  rw [after0_22, out0_22_eq]
  frame_out
  idx_vars j
  exact ((c64_at _ _ _ _).trans (In.q4_at _ _ _ _)).trans (by rw [net_eq]; rfl)
theorem final23 : (dats m 0 c).arrAt 23 (cfgs 0).N = (args m c).scales Spec.Net.g2 := by
  refine (dats m 0 c).arrAt_eq_of_after_last 23 t0_0 (by decide +kernel) _ fun j => ?_
  blk_simp
  rw [after0_23, out0_23_eq]
  frame_out
  idx_vars j
  exact (In.s4_at _ _ _).trans (by rw [net_eq]; rfl)
/-- A colour's piece at an index of the array. -/
theorem rgb_piece (t : Fin cfg0.N) (k : ℕ) (hk : k < 3) (hs) (x : S1x2500x128.Idx) (a : Fin 3) (b : Fin 2500) (d : Fin 128)
    (ha : (a : ℕ) = k) (hb : (b : ℕ) = x 1) (hd : (d : ℕ) = x 2) : (ins m c t).ch k hs x = (args m c).rgb (ix3 a b d) := by
  idx_vars x
  obtain rfl : b = x1 := Fin.ext hb
  obtain rfl : d = x2 := Fin.ext hd
  obtain rfl : x0 = 0 := Subsingleton.elim _ _
  subst ha
  exact ((ins m c t).ch_at b d a hk hs).trans (by rw [net_eq]; rfl)

theorem final13 : (dats m 0 c).arrAt 13 (cfgs 0).N = (args m c).rgb := by
  refine (dats m 0 c).arrAt_eq_of_after_last 13 t0_0 (by decide +kernel) _ fun j => ?_
  blk_simp
  rw [after0_13, out0_13_eq]
  idx_vars j
  canon_tiles x h
  · exact rgb_piece m c t0_0 2 (by decide) _ x j0 j1 j2 (by have : (j0 : ℕ) = 2 + x 0 := h0; omega) h1 h2
  · exact rgb_piece m c t0_0 1 (by decide) _ x j0 j1 j2 (by have : (j0 : ℕ) = 1 + x 0 := h0; omega) h1 h2
  · exact rgb_piece m c t0_0 0 (by decide) _ x j0 j1 j2 (by have : (j0 : ℕ) = x 0 := h0; omega) h1 h2
end Cert.Proof.Ref
-- ==== Proof.RefValue.lean ====
/- The reference's run with every result array after it named, the arguments unchanged. -/
module

public import proofs.«01_k».proof.Proof.Gen.ReferenceIdeal.Frame
public import Idealize.ShloMosaic.Lib.Pipeline.Value

@[expose] public section

noncomputable section

namespace Cert.Proof.RefValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v7_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v7_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v7_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v7_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v7_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v7_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v7_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v7_7) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v7_8) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v7_9) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v7_10) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v7_11) = (dats m 0 c).arrAt 23 cfg0.N :=
  (h c).1 23

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: input window 7 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- After the frame run, argument `main_arg9` is as launched: input window 8 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 8).trans (((dats m 0 c).arrAt_in 8 rfl _).trans ((A_eq m c 8).trans (V_main_arg9 m c)))

/-- After the frame run, argument `main_arg10` is as launched: input window 9 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

/-- After the frame run, argument `main_arg11` is as launched: input window 10 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- After the frame run, argument `main_arg12` is as launched: input window 11 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- The frame run with each output array after the run NAMED as `(dats m 0 c).arrAt w N`,
    the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 12 cfg0.N
      ∧ r.2.mem ((c : Thread nD τ).loc main_v7_1) = (dats m 0 c).arrAt 13 cfg0.N
      ∧ r.2.mem ((c : Thread nD τ).loc main_v7_2) = (dats m 0 c).arrAt 14 cfg0.N
      ∧ r.2.mem ((c : Thread nD τ).loc main_v7_3) = (dats m 0 c).arrAt 15 cfg0.N
      ∧ r.2.mem ((c : Thread nD τ).loc main_v7_4) = (dats m 0 c).arrAt 16 cfg0.N
      ∧ r.2.mem ((c : Thread nD τ).loc main_v7_5) = (dats m 0 c).arrAt 17 cfg0.N
      ∧ r.2.mem ((c : Thread nD τ).loc main_v7_6) = (dats m 0 c).arrAt 18 cfg0.N
      ∧ r.2.mem ((c : Thread nD τ).loc main_v7_7) = (dats m 0 c).arrAt 19 cfg0.N
      ∧ r.2.mem ((c : Thread nD τ).loc main_v7_8) = (dats m 0 c).arrAt 20 cfg0.N
      ∧ r.2.mem ((c : Thread nD τ).loc main_v7_9) = (dats m 0 c).arrAt 21 cfg0.N
      ∧ r.2.mem ((c : Thread nD τ).loc main_v7_10) = (dats m 0 c).arrAt 22 cfg0.N
      ∧ r.2.mem ((c : Thread nD τ).loc main_v7_11) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Proof.RefValue
-- ==== Proof.Pair.lean ====
/- At the ideal instance the kernel's results are the reference's: both are the network's, at the same arguments. -/
module

public import proofs.«01_k».proof.Defs
public import proofs.«01_k».proof.Proof.KerTwo
public import proofs.«01_k».proof.Proof.KerFinal
public import proofs.«01_k».proof.Proof.RefFinal
public import proofs.«01_k».proof.Proof.RefValue
public import proofs.«01_k».proof.Proof.Gen.KernelIdeal.Value

@[expose] public section

set_option maxRecDepth 16384

noncomputable section

namespace Cert.Proof

open Idealize.ShloMosaic Idealize.SL.Sem

set_option maxHeartbeats 4000000 in
theorem algebraic : Cert.algebraic_KernelIdeal_ReferenceIdeal := by
  intro m g m' g' _ hagree
  have e : ∀ c, Ref.args m' c = Ker.args m c := fun c => by
    simp only [Ref.args, Ker.args, Spec.Args.mk.injEq]
    exact hagree c
  refine ⟨fun c => (Ker.args m c).sigma, fun c => (Ker.args m c).rgb, fun c => (Ker.args m c).codes Spec.Net.f, fun c => (Ker.args m c).scales Spec.Net.f, fun c => (Ker.args m c).codes Spec.Net.h1, fun c => (Ker.args m c).scales Spec.Net.h1, fun c => (Ker.args m c).codes Spec.Net.cin, fun c => (Ker.args m c).scales Spec.Net.cin, fun c => (Ker.args m c).codes Spec.Net.g1, fun c => (Ker.args m c).scales Spec.Net.g1, fun c => (Ker.args m c).codes Spec.Net.g2, fun c => (Ker.args m c).scales Spec.Net.g2,
    (θ_run _ _ _).mono (fun r h c => ?_) (Cert.KernelIdeal.Value.run_blocks m g), (θ_run _ _ _).mono (fun r h c => ?_) (RefValue.run_blocks m' g')⟩
  · obtain ⟨h0, h1, h2, h3, h4, h5, h6, h7, h8, h9, h10, h11, hk⟩ := h c
    exact ⟨h0.trans (Ker.final13 m c), h1.trans (Ker.final14 m c), h2.trans (Ker.final15 m c), h3.trans (Ker.final16 m c), h4.trans (Ker.final17 m c), h5.trans (Ker.final18 m c), h6.trans (Ker.final19 m c), h7.trans (Ker.final20 m c), h8.trans (Ker.final21 m c), h9.trans (Ker.final22 m c), h10.trans (Ker.final23 m c), h11.trans (Ker.final24 m c), hk⟩
  · obtain ⟨h0, h1, h2, h3, h4, h5, h6, h7, h8, h9, h10, h11, hk⟩ := h c
    exact ⟨(h0.trans (Ref.final12 m' c)).trans (congrArg (fun X : Spec.Args => X.sigma) (e c)),
      (h1.trans (Ref.final13 m' c)).trans (congrArg (fun X : Spec.Args => X.rgb) (e c)),
      (h2.trans (Ref.final14 m' c)).trans (congrArg (fun X : Spec.Args => X.codes Spec.Net.f) (e c)),
      (h3.trans (Ref.final15 m' c)).trans (congrArg (fun X : Spec.Args => X.scales Spec.Net.f) (e c)),
      (h4.trans (Ref.final16 m' c)).trans (congrArg (fun X : Spec.Args => X.codes Spec.Net.h1) (e c)),
      (h5.trans (Ref.final17 m' c)).trans (congrArg (fun X : Spec.Args => X.scales Spec.Net.h1) (e c)),
      (h6.trans (Ref.final18 m' c)).trans (congrArg (fun X : Spec.Args => X.codes Spec.Net.cin) (e c)),
      (h7.trans (Ref.final19 m' c)).trans (congrArg (fun X : Spec.Args => X.scales Spec.Net.cin) (e c)),
      (h8.trans (Ref.final20 m' c)).trans (congrArg (fun X : Spec.Args => X.codes Spec.Net.g1) (e c)),
      (h9.trans (Ref.final21 m' c)).trans (congrArg (fun X : Spec.Args => X.scales Spec.Net.g1) (e c)),
      (h10.trans (Ref.final22 m' c)).trans (congrArg (fun X : Spec.Args => X.codes Spec.Net.g2) (e c)),
      (h11.trans (Ref.final23 m' c)).trans (congrArg (fun X : Spec.Args => X.scales Spec.Net.g2) (e c)), hk⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Pair
public import Idealize.ShloMosaic.Adequacy
public import Idealize.ShloMosaic.Init

@[expose] public section

noncomputable section

namespace Cert.Proof

open Idealize.ShloMosaic Idealize.SL.Sem Cert.Kernel

/-- The five claims: the three frames and the ledger from the generated modules, the equality of results from `algebraic`. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
